-- ==== Defs.lean ====
def Pre_Kernel [hPre_pos_ok : Cert.Pre_pos_ok.Facts] (m : (ℓ : Loc Cert.Kernel.nD Cert.Kernel.τ Cert.Kernel.sig) → Buf (Elt Bits) ℓ) : Prop :=
  ∀ c : Dev Cert.Kernel.nD,
    (Cert.Pre_pos_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pos_ok : Cert.Pre_pos_ok.Facts] (m : (ℓ : Loc Cert.KernelIdeal.nD Cert.KernelIdeal.τ Cert.KernelIdeal.sig) → Buf (Elt Ideal) ℓ) : Prop :=
  ∀ c : Dev Cert.KernelIdeal.nD,
    (Cert.Pre_pos_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_pos_ok : Cert.Pre_pos_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pos_ok : Cert.Pre_pos_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pos_ok : Cert.Pre_pos_ok.Facts) (hPre_inputs_ok : Cert.Pre_inputs_ok.Facts),
    quiescent_Kernel (hKernel := hKernel) (hPre_pos_ok := hPre_pos_ok)
    ∧ quiescent_KernelIdeal (hKernelIdeal := hKernelIdeal) (hPre_pos_ok := hPre_pos_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S100000x1024 : Shape := ⟨2, ![100000, 1024]⟩
abbrev S32x8x1024 : Shape := ⟨3, ![32, 8, 1024]⟩
abbrev S1 : Shape := ⟨1, ![1]⟩
abbrev S32 : Shape := ⟨1, ![32]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S100000x1024 : S_.BroadcastsInDim S100000x1024 (![] : Fin 0 → Fin S100000x1024.rank)
  reducesTo_S100000x1024_S_d0_1 : S100000x1024.ReducesTo [0, 1] S_
  bcast_S_S32x8x1024 : S_.BroadcastsInDim S32x8x1024 (![] : Fin 0 → Fin S32x8x1024.rank)
  reducesTo_S32x8x1024_S_d0_1_2 : S32x8x1024.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg3 : FVec F S32 .f32) (main_arg4 : FVec F S32 .f32) (main_arg5 : IVec S32 32) (main_v15 : IVec S_ 1) (main_cst_5 : FVec F S_ .f32) : IVec S_ 1 :=
  let main_v16 : FVec F S32 .f32 := broadcastInDim S32 ![] bcast_S_S32 main_cst_5
  let main_v17 : IVec S32 1 := cmpf .ogt main_arg3 main_v16
  let main_cst_6 : FVec F S_ .f32 := constant S_ .f32 0x7F800000#32
  let main_v18 : FVec F S32 .f32 := broadcastInDim S32 ![] bcast_S_S32 main_cst_6
  let main_v19 : IVec S32 1 := cmpf .olt main_arg3 main_v18
  let main_v20 : IVec S32 1 := andi main_v17 main_v19
  let main_c_7 : IVec S_ 1 := constantI S_ 1 1#1
  let main_v21 : IVec S_ 1 := (fun x v => Host.reduce IntOp.andi x v reducesTo_S32_S_d0 h_S_) main_v20 main_c_7
  let main_v22 : IVec S_ 1 := andi main_v15 main_v21
  let main_cst_8 : FVec F S_ .f32 := constant S_ .f32 0x00000000#32
  let main_v23 : FVec F S32 .f32 := broadcastInDim S32 ![] bcast_S_S32 main_cst_8
  let main_v24 : IVec S32 1 := cmpf .oge main_arg4 main_v23
  let main_c_9 : IVec S_ 1 := constantI S_ 1 1#1
  let main_v25 : IVec S_ 1 := (fun x v => Host.reduce IntOp.andi x v reducesTo_S32_S_d0 h_S_) main_v24 main_c_9
  let main_v26 : IVec S_ 1 := andi main_v22 main_v25
  let main_c_10 : IVec S_ 32 := constantI S_ 32 1#32
  let main_v27 : IVec S32 32 := broadcastInDim S32 ![] bcast_S_S32 main_c_10
  let main_v28 : IVec S32 1 := cmpi .eq main_arg5 main_v27
  let main_c_11 : IVec S_ 1 := constantI S_ 1 1#1
  let main_v29 : IVec S_ 1 := (fun x v => Host.reduce IntOp.andi x v reducesTo_S32_S_d0 h_S_) main_v28 main_c_11
  let main_v30 : IVec S_ 1 := andi main_v26 main_v29
  main_v30

def fn {F : FTy → Type} [FloatOps F] (main_arg0 : FVec F S100000x1024 .f32) (main_arg1 : FVec F S32x8x1024 .f32) (main_arg2 : IVec S1 32) (main_arg3 : FVec F S32 .f32) (main_arg4 : FVec F S32 .f32) (main_arg5 : IVec S32 32) : IVec S_ 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  let main_v6 : FVec F S100000x1024 .f32 := Host.absf main_arg0
  let main_cst : FVec F S_ .f32 := constant S_ .f32 0x7F800000#32
  let main_v7 : FVec F S100000x1024 .f32 := broadcastInDim S100000x1024 ![] bcast_S_S100000x1024 main_cst
  let main_v8 : IVec S100000x1024 1 := cmpf .olt main_v6 main_v7
  let main_c_2 : IVec S_ 1 := constantI S_ 1 1#1
  let main_v9 : IVec S_ 1 := (fun x v => Host.reduce IntOp.andi x v reducesTo_S100000x1024_S_d0_1 h_S_) main_v8 main_c_2
  let main_v10 : IVec S_ 1 := andi main_v5 main_v9
  let main_v11 : FVec F S32x8x1024 .f32 := Host.absf main_arg1
  let main_cst_3 : FVec F S_ .f32 := constant S_ .f32 0x7F800000#32
  let main_v12 : FVec F S32x8x1024 .f32 := broadcastInDim S32x8x1024 ![] bcast_S_S32x8x1024 main_cst_3
  let main_v13 : IVec S32x8x1024 1 := cmpf .olt main_v11 main_v12
  let main_c_4 : IVec S_ 1 := constantI S_ 1 1#1
  let main_v14 : IVec S_ 1 := (fun x v => Host.reduce IntOp.andi x v reducesTo_S32x8x1024_S_d0_1_2 h_S_) main_v13 main_c_4
  let main_v15 : IVec S_ 1 := andi main_v10 main_v14
  let main_cst_5 : FVec F S_ .f32 := constant S_ .f32 0x00000000#32
  fn_part1 (F := F) main_arg3 main_arg4 main_arg5 main_v15 main_cst_5
-- ==== Pre_pos_ok.lean ====
abbrev S100000x1024 : Shape := ⟨2, ![100000, 1024]⟩
abbrev S32x8x1024 : Shape := ⟨3, ![32, 8, 1024]⟩
abbrev S1 : Shape := ⟨1, ![1]⟩
abbrev S32 : Shape := ⟨1, ![32]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S100000x1024 .f32) (main_arg1 : FVec F S32x8x1024 .f32) (main_arg2 : IVec S1 32) (main_arg3 : FVec F S32 .f32) (main_arg4 : FVec F S32 .f32) (main_arg5 : IVec S32 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Kernel.lean ====
abbrev S100000x1024 : Shape := ⟨2, ![100000, 1024]⟩
abbrev S32x8x1024 : Shape := ⟨3, ![32, 8, 1024]⟩
abbrev S1 : Shape := ⟨1, ![1]⟩
abbrev S32 : Shape := ⟨1, ![32]⟩
abbrev S8x32x1024 : Shape := ⟨3, ![8, 32, 1024]⟩
abbrev S32x1 : Shape := ⟨2, ![32, 1]⟩
abbrev S1x32x1024 : Shape := ⟨3, ![1, 32, 1024]⟩
abbrev S2000x1024 : Shape := ⟨2, ![2000, 1024]⟩
abbrev S32x1024 : Shape := ⟨2, ![32, 1024]⟩
abbrev S32x2000 : Shape := ⟨2, ![32, 2000]⟩

abbrev nBuf : Space → Nat
  | .hbm => 8
  | .vmem => 6
  | .smem => 1
  | _ => 0

abbrev bufTy : (tb : Table) → Fin (tcTables nBuf tb) → BufTy
  | .hbm, ⟨0, _⟩ => ⟨S100000x1024, .f32⟩
  | .hbm, ⟨1, _⟩ => ⟨S32x8x1024, .f32⟩
  | .hbm, ⟨2, _⟩ => ⟨S32, .f32⟩
  | .hbm, ⟨3, _⟩ => ⟨S32, .f32⟩
  | .hbm, ⟨4, _⟩ => ⟨S32, .i32⟩
  | .hbm, ⟨5, _⟩ => ⟨S8x32x1024, .f32⟩
  | .hbm, ⟨6, _⟩ => ⟨S32x1, .i32⟩
  | .hbm, ⟨7, _⟩ => ⟨S32, .i32⟩
  | .local _ .vmem, ⟨0, _⟩ => ⟨S1x32x1024, .f32⟩
  | .local _ .vmem, ⟨1, _⟩ => ⟨S2000x1024, .f32⟩
  | .local _ .vmem, ⟨2, _⟩ => ⟨S2000x1024, .f32⟩
  | .local _ .vmem, ⟨3, _⟩ => ⟨S32x1, .i32⟩
  | .local _ .vmem, ⟨4, _⟩ => ⟨S32x1, .f32⟩
  | .local _ .vmem, ⟨5, _⟩ => ⟨S32x1, .i32⟩
  | .local _ .smem, ⟨0, _⟩ => ⟨S1, .i32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![50], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c49_i32 : BitVec 32 := 49#32
  let v31 : BitVec 1 := Scalar.cmpi .eq arg0 c49_i32
  let v32 : BitVec 32 := Scalar.extui v31
  let c0_i32_18 : BitVec 32 := 0#32
  let v33 : BitVec 1 := Scalar.cmpi .ne v32 c0_i32_18
  v33

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S100000x1024 : Shape := ⟨2, ![100000, 1024]⟩
abbrev S32x8x1024 : Shape := ⟨3, ![32, 8, 1024]⟩
abbrev S1 : Shape := ⟨1, ![1]⟩
abbrev S32 : Shape := ⟨1, ![32]⟩
abbrev S_ : Shape := ⟨0, ![]⟩
abbrev S1x1 : Shape := ⟨2, ![1, 1]⟩
abbrev S32x1x1024 : Shape := ⟨3, ![32, 1, 1024]⟩
abbrev S32x1024 : Shape := ⟨2, ![32, 1024]⟩
abbrev S1024x100000 : Shape := ⟨2, ![1024, 100000]⟩
abbrev S32x100000 : Shape := ⟨2, ![32, 100000]⟩
abbrev S32x1 : Shape := ⟨2, ![32, 1]⟩
abbrev S32x100000x1 : Shape := ⟨3, ![32, 100000, 1]⟩
abbrev S1x1x1 : Shape := ⟨3, ![1, 1, 1]⟩
abbrev S100000 : Shape := ⟨1, ![100000]⟩
abbrev S1x100000 : Shape := ⟨2, ![1, 100000]⟩
abbrev S2 : Shape := ⟨1, ![2]⟩

abbrev nBuf : Space → Nat
  | .hbm => 409
  | .vmem => 0
  | .smem => 0
  | _ => 0

abbrev hbmTy0_0 (i : Nat) : BufTy := match i % 128 with
  | 0 => ⟨S100000x1024, .f32⟩
  | 1 => ⟨S32x8x1024, .f32⟩
  | 2 => ⟨S1, .i32⟩
  | 3 => ⟨S32, .f32⟩
  | 4 => ⟨S32, .f32⟩
  | 5 => ⟨S32, .i32⟩
  | 6 => ⟨S_, .i32⟩
  | 7 => ⟨S1, .i32⟩
  | 8 => ⟨S1, .i1⟩
  | 9 => ⟨S_, .i32⟩
  | 10 => ⟨S1, .i32⟩
  | 11 => ⟨S1, .i32⟩
  | 12 => ⟨S1, .i32⟩
  | 13 => ⟨S1x1, .i32⟩
  | 14 => ⟨S1, .i32⟩
  | 15 => ⟨S_, .i32⟩
  | 16 => ⟨S1x1, .i32⟩
  | 17 => ⟨S1x1, .i1⟩
  | 18 => ⟨S1x1, .i32⟩
  | 19 => ⟨S1x1, .i1⟩
  | 20 => ⟨S1x1, .i1⟩
  | 21 => ⟨S_, .i1⟩
  | 22 => ⟨S1, .i1⟩
  | 23 => ⟨S32x1x1024, .f32⟩
  | 24 => ⟨S32x1x1024, .i1⟩
  | 25 => ⟨S_, .f32⟩
  | 26 => ⟨S32x1x1024, .f32⟩
  | 27 => ⟨S32x1x1024, .f32⟩
  | 28 => ⟨S32x1024, .f32⟩
  | 29 => ⟨S1024x100000, .f32⟩
  | 30 => ⟨S32x100000, .f32⟩
  | 31 => ⟨S32x1, .f32⟩
  | 32 => ⟨S32x100000, .f32⟩
  | 33 => ⟨S32x100000, .f32⟩
  | 34 => ⟨S_, .f32⟩
  | 35 => ⟨S32, .f32⟩
  | 36 => ⟨S_, .f32⟩
  | 37 => ⟨S32, .f32⟩
  | 38 => ⟨S32, .f32⟩
  | 39 => ⟨S32x1, .f32⟩
  | 40 => ⟨S32x100000, .f32⟩
  | 41 => ⟨S32x100000, .f32⟩
  | 42 => ⟨S32x100000, .f32⟩
  | 43 => ⟨S_, .f32⟩
  | 44 => ⟨S32, .f32⟩
  | 45 => ⟨S32x1, .f32⟩
  | 46 => ⟨S32x100000, .f32⟩
  | 47 => ⟨S32x100000, .f32⟩
  | 48 => ⟨S32x100000, .f32⟩
  | 49 => ⟨S32x100000, .i32⟩
  | 50 => ⟨S32x100000, .f32⟩
  | 51 => ⟨S32x100000, .i32⟩
  | 52 => ⟨S_, .i32⟩
  | 53 => ⟨S32x100000, .i32⟩
  | 54 => ⟨S32x100000, .i1⟩
  | 55 => ⟨S_, .i32⟩
  | 56 => ⟨S32x100000, .i32⟩
  | 57 => ⟨S32x100000, .i32⟩
  | 58 => ⟨S32x100000, .i32⟩
  | 59 => ⟨S32x100000x1, .i32⟩
  | 60 => ⟨S1, .i32⟩
  | 61 => ⟨S_, .i32⟩
  | 62 => ⟨S32x100000x1, .i32⟩
  | 63 => ⟨S32x100000x1, .i1⟩
  | 64 => ⟨S1x1x1, .i32⟩
  | 65 => ⟨S32x100000x1, .i32⟩
  | 66 => ⟨S32x100000x1, .i1⟩
  | 67 => ⟨S32x100000x1, .i1⟩
  | 68 => ⟨S_, .i1⟩
  | 69 => ⟨S32x100000, .i1⟩
  | 70 => ⟨S32x100000, .f32⟩
  | 71 => ⟨S_, .f32⟩
  | 72 => ⟨S32x100000, .f32⟩
  | 73 => ⟨S32x100000, .f32⟩
  | 74 => ⟨S_, .f32⟩
  | 75 => ⟨S_, .f32⟩
  | 76 => ⟨S32x100000, .f32⟩
  | 77 => ⟨S32x100000, .f32⟩
  | 78 => ⟨S32x1, .f32⟩
  | 79 => ⟨S32x100000, .f32⟩
  | 80 => ⟨S32x100000, .i1⟩
  | 81 => ⟨S_, .f32⟩
  | 82 => ⟨S_, .f32⟩
  | 83 => ⟨S32x100000, .f32⟩
  | 84 => ⟨S32x100000, .f32⟩
  | 85 => ⟨S100000, .i32⟩
  | 86 => ⟨S1x100000, .i32⟩
  | 87 => ⟨S32x100000, .i32⟩
  | 88 => ⟨S32x1, .i32⟩
  | 89 => ⟨S32x100000, .i32⟩
  | 90 => ⟨S32x100000, .i1⟩
  | 91 => ⟨S_, .f32⟩
  | 92 => ⟨S_, .f32⟩
  | 93 => ⟨S32x100000, .f32⟩
  | 94 => ⟨S32x100000, .f32⟩
  | 95 => ⟨S_, .f32⟩
  | 96 => ⟨S32, .f32⟩
  | 97 => ⟨S32x1, .f32⟩
  | 98 => ⟨S32x100000, .f32⟩
  | 99 => ⟨S32x100000, .f32⟩
  | 100 => ⟨S32x100000, .i32⟩
  | 101 => ⟨S32x100000, .i32⟩
  | 102 => ⟨S32x100000, .i32⟩
  | 103 => ⟨S_, .i32⟩
  | 104 => ⟨S32x100000, .i32⟩
  | 105 => ⟨S32x100000, .i1⟩
  | 106 => ⟨S_, .i32⟩
  | 107 => ⟨S32x100000, .i32⟩
  | 108 => ⟨S32x100000, .i32⟩
  | 109 => ⟨S32x100000, .i32⟩
  | 110 => ⟨S32x100000x1, .i32⟩
  | 111 => ⟨S1, .i32⟩
  | 112 => ⟨S_, .i32⟩
  | 113 => ⟨S32x100000x1, .i32⟩
  | 114 => ⟨S32x100000x1, .i1⟩
  | 115 => ⟨S1x1x1, .i32⟩
  | 116 => ⟨S32x100000x1, .i32⟩
  | 117 => ⟨S32x100000x1, .i1⟩
  | 118 => ⟨S32x100000x1, .i1⟩
  | 119 => ⟨S_, .i1⟩
  | 120 => ⟨S32x100000, .i1⟩
  | 121 => ⟨S32x100000, .f32⟩
  | 122 => ⟨S_, .f32⟩
  | 123 => ⟨S32x100000, .f32⟩
  | 124 => ⟨S32x100000, .f32⟩
  | 125 => ⟨S_, .i32⟩
  | 126 => ⟨S_, .i32⟩
  | 127 => ⟨S_, .i32⟩
  | _ => ⟨S100000x1024, .f32⟩

abbrev hbmTy0_1 (i : Nat) : BufTy := match i % 128 with
  | 0 => ⟨S_, .i32⟩
  | 1 => ⟨S1, .i32⟩
  | 2 => ⟨S_, .i32⟩
  | 3 => ⟨S_, .i32⟩
  | 4 => ⟨S_, .i32⟩
  | 5 => ⟨S1, .i32⟩
  | 6 => ⟨S2, .i32⟩
  | 7 => ⟨S32x100000, .f32⟩
  | 8 => ⟨S_, .f32⟩
  | 9 => ⟨S_, .f32⟩
  | 10 => ⟨S_, .f32⟩
  | 11 => ⟨S1x1, .f32⟩
  | 12 => ⟨S1x1, .f32⟩
  | 13 => ⟨S1, .i32⟩
  | 14 => ⟨S_, .i32⟩
  | 15 => ⟨S1, .i32⟩
  | 16 => ⟨S_, .i32⟩
  | 17 => ⟨S32x100000, .i64⟩
  | 18 => ⟨S32x100000, .i64⟩
  | 19 => ⟨S_, .i64⟩
  | 20 => ⟨S32x100000, .i64⟩
  | 21 => ⟨S32x100000, .i64⟩
  | 22 => ⟨S_, .i64⟩
  | 23 => ⟨S32x100000, .i64⟩
  | 24 => ⟨S32x100000, .i64⟩
  | 25 => ⟨S32x100000, .i64⟩
  | 26 => ⟨S_, .i64⟩
  | 27 => ⟨S32x100000, .i64⟩
  | 28 => ⟨S32x100000, .i64⟩
  | 29 => ⟨S32x100000, .i32⟩
  | 30 => ⟨S32x100000, .i32⟩
  | 31 => ⟨S_, .i32⟩
  | 32 => ⟨S_, .i32⟩
  | 33 => ⟨S_, .i32⟩
  | 34 => ⟨S32x100000, .i32⟩
  | 35 => ⟨S32x100000, .i32⟩
  | 36 => ⟨S32x100000, .i32⟩
  | 37 => ⟨S32x100000, .i32⟩
  | 38 => ⟨S32x100000, .i32⟩
  | 39 => ⟨S_, .i32⟩
  | 40 => ⟨S32x100000, .i32⟩
  | 41 => ⟨S32x100000, .i32⟩
  | 42 => ⟨S_, .i32⟩
  | 43 => ⟨S32x100000, .i32⟩
  | 44 => ⟨S32x100000, .i32⟩
  | 45 => ⟨S32x100000, .i32⟩
  | 46 => ⟨S32x100000, .i32⟩
  | 47 => ⟨S32x100000, .i32⟩
  | 48 => ⟨S_, .i32⟩
  | 49 => ⟨S32x100000, .i32⟩
  | 50 => ⟨S32x100000, .i32⟩
  | 51 => ⟨S_, .i32⟩
  | 52 => ⟨S32x100000, .i32⟩
  | 53 => ⟨S32x100000, .i32⟩
  | 54 => ⟨S32x100000, .i32⟩
  | 55 => ⟨S32x100000, .i32⟩
  | 56 => ⟨S32x100000, .i32⟩
  | 57 => ⟨S_, .i32⟩
  | 58 => ⟨S32x100000, .i32⟩
  | 59 => ⟨S32x100000, .i32⟩
  | 60 => ⟨S_, .i32⟩
  | 61 => ⟨S32x100000, .i32⟩
  | 62 => ⟨S32x100000, .i32⟩
  | 63 => ⟨S32x100000, .i32⟩
  | 64 => ⟨S32x100000, .i32⟩
  | 65 => ⟨S32x100000, .i32⟩
  | 66 => ⟨S_, .i32⟩
  | 67 => ⟨S32x100000, .i32⟩
  | 68 => ⟨S32x100000, .i32⟩
  | 69 => ⟨S_, .i32⟩
  | 70 => ⟨S32x100000, .i32⟩
  | 71 => ⟨S32x100000, .i32⟩
  | 72 => ⟨S32x100000, .i32⟩
  | 73 => ⟨S32x100000, .i32⟩
  | 74 => ⟨S32x100000, .i32⟩
  | 75 => ⟨S32x100000, .i32⟩
  | 76 => ⟨S32x100000, .i32⟩
  | 77 => ⟨S32x100000, .i32⟩
  | 78 => ⟨S_, .i32⟩
  | 79 => ⟨S32x100000, .i32⟩
  | 80 => ⟨S32x100000, .i32⟩
  | 81 => ⟨S32x100000, .i32⟩
  | 82 => ⟨S_, .i32⟩
  | 83 => ⟨S32x100000, .i32⟩
  | 84 => ⟨S32x100000, .i32⟩
  | 85 => ⟨S_, .i32⟩
  | 86 => ⟨S32x100000, .i32⟩
  | 87 => ⟨S32x100000, .i32⟩
  | 88 => ⟨S32x100000, .i32⟩
  | 89 => ⟨S32x100000, .i32⟩
  | 90 => ⟨S32x100000, .i32⟩
  | 91 => ⟨S_, .i32⟩
  | 92 => ⟨S32x100000, .i32⟩
  | 93 => ⟨S32x100000, .i32⟩
  | 94 => ⟨S_, .i32⟩
  | 95 => ⟨S32x100000, .i32⟩
  | 96 => ⟨S32x100000, .i32⟩
  | 97 => ⟨S32x100000, .i32⟩
  | 98 => ⟨S32x100000, .i32⟩
  | 99 => ⟨S32x100000, .i32⟩
  | 100 => ⟨S_, .i32⟩
  | 101 => ⟨S32x100000, .i32⟩
  | 102 => ⟨S32x100000, .i32⟩
  | 103 => ⟨S_, .i32⟩
  | 104 => ⟨S32x100000, .i32⟩
  | 105 => ⟨S32x100000, .i32⟩
  | 106 => ⟨S32x100000, .i32⟩
  | 107 => ⟨S32x100000, .i32⟩
  | 108 => ⟨S32x100000, .i32⟩
  | 109 => ⟨S_, .i32⟩
  | 110 => ⟨S32x100000, .i32⟩
  | 111 => ⟨S32x100000, .i32⟩
  | 112 => ⟨S_, .i32⟩
  | 113 => ⟨S32x100000, .i32⟩
  | 114 => ⟨S32x100000, .i32⟩
  | 115 => ⟨S32x100000, .i32⟩
  | 116 => ⟨S32x100000, .i32⟩
  | 117 => ⟨S32x100000, .i32⟩
  | 118 => ⟨S32x100000, .i32⟩
  | 119 => ⟨S32x100000, .i32⟩
  | 120 => ⟨S32x100000, .i32⟩
  | 121 => ⟨S_, .i32⟩
  | 122 => ⟨S32x100000, .i32⟩
  | 123 => ⟨S32x100000, .i32⟩
  | 124 => ⟨S32x100000, .i32⟩
  | 125 => ⟨S_, .i32⟩
  | 126 => ⟨S32x100000, .i32⟩
  | 127 => ⟨S32x100000, .i32⟩
  | _ => ⟨S100000x1024, .f32⟩

abbrev hbmTy0_2 (i : Nat) : BufTy := match i % 128 with
  | 0 => ⟨S_, .i32⟩
  | 1 => ⟨S32x100000, .i32⟩
  | 2 => ⟨S32x100000, .i32⟩
  | 3 => ⟨S32x100000, .i32⟩
  | 4 => ⟨S32x100000, .i32⟩
  | 5 => ⟨S32x100000, .i32⟩
  | 6 => ⟨S_, .i32⟩
  | 7 => ⟨S32x100000, .i32⟩
  | 8 => ⟨S32x100000, .i32⟩
  | 9 => ⟨S_, .i32⟩
  | 10 => ⟨S32x100000, .i32⟩
  | 11 => ⟨S32x100000, .i32⟩
  | 12 => ⟨S32x100000, .i32⟩
  | 13 => ⟨S32x100000, .i32⟩
  | 14 => ⟨S32x100000, .i32⟩
  | 15 => ⟨S_, .i32⟩
  | 16 => ⟨S32x100000, .i32⟩
  | 17 => ⟨S32x100000, .i32⟩
  | 18 => ⟨S_, .i32⟩
  | 19 => ⟨S32x100000, .i32⟩
  | 20 => ⟨S32x100000, .i32⟩
  | 21 => ⟨S32x100000, .i32⟩
  | 22 => ⟨S32x100000, .i32⟩
  | 23 => ⟨S32x100000, .i32⟩
  | 24 => ⟨S_, .i32⟩
  | 25 => ⟨S32x100000, .i32⟩
  | 26 => ⟨S32x100000, .i32⟩
  | 27 => ⟨S_, .i32⟩
  | 28 => ⟨S32x100000, .i32⟩
  | 29 => ⟨S32x100000, .i32⟩
  | 30 => ⟨S32x100000, .i32⟩
  | 31 => ⟨S32x100000, .i32⟩
  | 32 => ⟨S32x100000, .i32⟩
  | 33 => ⟨S32x100000, .i32⟩
  | 34 => ⟨S32x100000, .i32⟩
  | 35 => ⟨S32x100000, .i32⟩
  | 36 => ⟨S_, .i32⟩
  | 37 => ⟨S32x100000, .i32⟩
  | 38 => ⟨S32x100000, .i32⟩
  | 39 => ⟨S32x100000, .i32⟩
  | 40 => ⟨S_, .i32⟩
  | 41 => ⟨S32x100000, .i32⟩
  | 42 => ⟨S32x100000, .i32⟩
  | 43 => ⟨S_, .i32⟩
  | 44 => ⟨S32x100000, .i32⟩
  | 45 => ⟨S32x100000, .i32⟩
  | 46 => ⟨S32x100000, .i32⟩
  | 47 => ⟨S32x100000, .i32⟩
  | 48 => ⟨S32x100000, .i32⟩
  | 49 => ⟨S_, .i32⟩
  | 50 => ⟨S32x100000, .i32⟩
  | 51 => ⟨S32x100000, .i32⟩
  | 52 => ⟨S_, .i32⟩
  | 53 => ⟨S32x100000, .i32⟩
  | 54 => ⟨S32x100000, .i32⟩
  | 55 => ⟨S32x100000, .i32⟩
  | 56 => ⟨S32x100000, .i32⟩
  | 57 => ⟨S32x100000, .i32⟩
  | 58 => ⟨S_, .i32⟩
  | 59 => ⟨S32x100000, .i32⟩
  | 60 => ⟨S32x100000, .i32⟩
  | 61 => ⟨S_, .i32⟩
  | 62 => ⟨S32x100000, .i32⟩
  | 63 => ⟨S32x100000, .i32⟩
  | 64 => ⟨S32x100000, .i32⟩
  | 65 => ⟨S32x100000, .i32⟩
  | 66 => ⟨S32x100000, .i32⟩
  | 67 => ⟨S_, .i32⟩
  | 68 => ⟨S32x100000, .i32⟩
  | 69 => ⟨S32x100000, .i32⟩
  | 70 => ⟨S_, .i32⟩
  | 71 => ⟨S32x100000, .i32⟩
  | 72 => ⟨S32x100000, .i32⟩
  | 73 => ⟨S32x100000, .i32⟩
  | 74 => ⟨S32x100000, .i32⟩
  | 75 => ⟨S32x100000, .i32⟩
  | 76 => ⟨S32x100000, .i32⟩
  | 77 => ⟨S32x100000, .i32⟩
  | 78 => ⟨S32x100000, .i32⟩
  | 79 => ⟨S_, .i32⟩
  | 80 => ⟨S32x100000, .i32⟩
  | 81 => ⟨S32x100000, .i32⟩
  | 82 => ⟨S32x100000, .i32⟩
  | 83 => ⟨S_, .i32⟩
  | 84 => ⟨S32x100000, .i32⟩
  | 85 => ⟨S32x100000, .i32⟩
  | 86 => ⟨S_, .i32⟩
  | 87 => ⟨S32x100000, .i32⟩
  | 88 => ⟨S32x100000, .i32⟩
  | 89 => ⟨S32x100000, .i32⟩
  | 90 => ⟨S32x100000, .i32⟩
  | 91 => ⟨S32x100000, .i32⟩
  | 92 => ⟨S_, .i32⟩
  | 93 => ⟨S32x100000, .i32⟩
  | 94 => ⟨S32x100000, .i32⟩
  | 95 => ⟨S_, .i32⟩
  | 96 => ⟨S32x100000, .i32⟩
  | 97 => ⟨S32x100000, .i32⟩
  | 98 => ⟨S32x100000, .i32⟩
  | 99 => ⟨S32x100000, .i32⟩
  | 100 => ⟨S32x100000, .i32⟩
  | 101 => ⟨S_, .i32⟩
  | 102 => ⟨S32x100000, .i32⟩
  | 103 => ⟨S32x100000, .i32⟩
  | 104 => ⟨S_, .i32⟩
  | 105 => ⟨S32x100000, .i32⟩
  | 106 => ⟨S32x100000, .i32⟩
  | 107 => ⟨S32x100000, .i32⟩
  | 108 => ⟨S32x100000, .i32⟩
  | 109 => ⟨S32x100000, .i32⟩
  | 110 => ⟨S_, .i32⟩
  | 111 => ⟨S32x100000, .i32⟩
  | 112 => ⟨S32x100000, .i32⟩
  | 113 => ⟨S_, .i32⟩
  | 114 => ⟨S32x100000, .i32⟩
  | 115 => ⟨S32x100000, .i32⟩
  | 116 => ⟨S32x100000, .i32⟩
  | 117 => ⟨S32x100000, .i32⟩
  | 118 => ⟨S32x100000, .i32⟩
  | 119 => ⟨S32x100000, .i32⟩
  | 120 => ⟨S32x100000, .i32⟩
  | 121 => ⟨S32x100000, .i32⟩
  | 122 => ⟨S_, .i32⟩
  | 123 => ⟨S32x100000, .i32⟩
  | 124 => ⟨S32x100000, .i32⟩
  | 125 => ⟨S32x100000, .i32⟩
  | 126 => ⟨S_, .i32⟩
  | 127 => ⟨S32x100000, .i32⟩
  | _ => ⟨S100000x1024, .f32⟩

abbrev hbmTy0_3 (i : Nat) : BufTy := match i % 128 with
  | 0 => ⟨S32x100000, .i32⟩
  | 1 => ⟨S_, .i32⟩
  | 2 => ⟨S32x100000, .i32⟩
  | 3 => ⟨S32x100000, .i32⟩
  | 4 => ⟨S32x100000, .f32⟩
  | 5 => ⟨S_, .f32⟩
  | 6 => ⟨S32x100000, .f32⟩
  | 7 => ⟨S32x100000, .f32⟩
  | 8 => ⟨S1x1, .f32⟩
  | 9 => ⟨S32x100000, .f32⟩
  | 10 => ⟨S32x100000, .f32⟩
  | 11 => ⟨S32x100000, .f32⟩
  | 12 => ⟨S32x100000, .f32⟩
  | 13 => ⟨S32x100000, .f32⟩
  | 14 => ⟨S32x100000, .f32⟩
  | 15 => ⟨S32x100000, .f32⟩
  | 16 => ⟨S32x100000, .f32⟩
  | 17 => ⟨S32x100000, .f32⟩
  | 18 => ⟨S32x100000, .f32⟩
  | 19 => ⟨S32x100000, .f32⟩
  | 20 => ⟨S32x100000, .i32⟩
  | 21 => ⟨S_, .f32⟩
  | 22 => ⟨S_, .i32⟩
  | 23 => ⟨S32, .f32⟩
  | 24 => ⟨S32, .i32⟩
  | _ => ⟨S100000x1024, .f32⟩

abbrev hbmTy (i : Nat) : BufTy := match i / 128 with
  | 0 => hbmTy0_0 i
  | 1 => hbmTy0_1 i
  | 2 => hbmTy0_2 i
  | 3 => hbmTy0_3 i
  | _ => ⟨S100000x1024, .f32⟩

abbrev bufTy : (tb : Table) → Fin (tcTables nBuf tb) → BufTy
  | .hbm, ⟨i, _⟩ => hbmTy i
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call1_v0 : Ref sig .tc := ⟨.hbm, 49, rfl⟩
abbrev main_call1_v1_0 : Ref sig .tc := ⟨.hbm, 50, rfl⟩
abbrev main_v19 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v20 : Ref sig .tc := ⟨.hbm, 73, rfl⟩
abbrev main_call3_call0_cst : Ref sig .tc := ⟨.hbm, 74, rfl⟩
abbrev main_call3_call0_v0 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_cst_2 : Ref sig .tc := ⟨.hbm, 81, rfl⟩
abbrev main_call4_v0 : Ref sig .tc := ⟨.hbm, 82, rfl⟩
abbrev main_call4_v1 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_cst_3 : Ref sig .tc := ⟨.hbm, 91, rfl⟩
abbrev main_call5_v0 : Ref sig .tc := ⟨.hbm, 92, rfl⟩
abbrev main_call5_v1 : Ref sig .tc := ⟨.hbm, 93, rfl⟩
abbrev main_v33 : Ref sig .tc := ⟨.hbm, 94, rfl⟩
abbrev main_cst_4 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_call6_v0 : Ref sig .tc := ⟨.hbm, 100, rfl⟩
abbrev main_call6_v1_0 : Ref sig .tc := ⟨.hbm, 101, rfl⟩
abbrev main_v38 : Ref sig .tc := ⟨.hbm, 102, rfl⟩
abbrev main_call7_c : Ref sig .tc := ⟨.hbm, 103, rfl⟩
abbrev main_call7_v0 : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_v5 : Ref sig .tc := ⟨.hbm, 110, rfl⟩
abbrev main_call7_c_1 : Ref sig .tc := ⟨.hbm, 111, rfl⟩
abbrev main_call7_c_2 : Ref sig .tc := ⟨.hbm, 112, rfl⟩
abbrev main_call7_v6 : Ref sig .tc := ⟨.hbm, 113, rfl⟩
abbrev main_call7_v7 : Ref sig .tc := ⟨.hbm, 114, rfl⟩
abbrev main_call7_v8 : Ref sig .tc := ⟨.hbm, 115, rfl⟩
abbrev main_call7_v9 : Ref sig .tc := ⟨.hbm, 116, rfl⟩
abbrev main_call7_v10 : Ref sig .tc := ⟨.hbm, 117, rfl⟩
abbrev main_call7_v11 : Ref sig .tc := ⟨.hbm, 118, rfl⟩
abbrev main_call7_c_3 : Ref sig .tc := ⟨.hbm, 119, rfl⟩
abbrev main_call7_v12 : Ref sig .tc := ⟨.hbm, 120, rfl⟩
abbrev main_call7_v13 : Ref sig .tc := ⟨.hbm, 121, rfl⟩
abbrev main_call7_cst : Ref sig .tc := ⟨.hbm, 122, rfl⟩
abbrev main_call7_v14 : Ref sig .tc := ⟨.hbm, 123, rfl⟩
abbrev main_v39 : Ref sig .tc := ⟨.hbm, 124, rfl⟩
abbrev main_c : Ref sig .tc := ⟨.hbm, 125, rfl⟩
abbrev main_c_5 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_c_6 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_call8_cst : Ref sig .tc := ⟨.hbm, 136, rfl⟩
abbrev main_call8_cst_0 : Ref sig .tc := ⟨.hbm, 137, rfl⟩
abbrev main_call8_call0_v0 : Ref sig .tc := ⟨.hbm, 138, rfl⟩
abbrev main_call8_call0_v1 : Ref sig .tc := ⟨.hbm, 139, rfl⟩
abbrev main_call8_call0_v2 : Ref sig .tc := ⟨.hbm, 140, rfl⟩
abbrev main_call8_call0_v3 : Ref sig .tc := ⟨.hbm, 141, rfl⟩
abbrev main_call8_call0_v4 : Ref sig .tc := ⟨.hbm, 142, rfl⟩
abbrev main_call8_call0_v5 : Ref sig .tc := ⟨.hbm, 143, rfl⟩
abbrev main_call8_call0_v6 : Ref sig .tc := ⟨.hbm, 144, rfl⟩
abbrev main_call8_call0_v7 : Ref sig .tc := ⟨.hbm, 145, rfl⟩
abbrev main_call8_call0_v8 : Ref sig .tc := ⟨.hbm, 146, rfl⟩
abbrev main_call8_call0_c : Ref sig .tc := ⟨.hbm, 147, rfl⟩
abbrev main_call8_call0_v9 : Ref sig .tc := ⟨.hbm, 148, rfl⟩
abbrev main_call8_call0_v10 : Ref sig .tc := ⟨.hbm, 149, rfl⟩
abbrev main_call8_call0_c_0 : Ref sig .tc := ⟨.hbm, 150, rfl⟩
abbrev main_call8_call0_v11 : Ref sig .tc := ⟨.hbm, 151, rfl⟩
abbrev main_call8_call0_v12 : Ref sig .tc := ⟨.hbm, 152, rfl⟩
abbrev main_call8_call0_v13 : Ref sig .tc := ⟨.hbm, 153, rfl⟩
abbrev main_call8_call0_c_1 : Ref sig .tc := ⟨.hbm, 154, rfl⟩
abbrev main_call8_call0_v14 : Ref sig .tc := ⟨.hbm, 155, rfl⟩
abbrev main_call8_call0_v15 : Ref sig .tc := ⟨.hbm, 156, rfl⟩
abbrev main_call8_call0_v16 : Ref sig .tc := ⟨.hbm, 157, rfl⟩
abbrev main_call8_call0_v17 : Ref sig .tc := ⟨.hbm, 158, rfl⟩
abbrev main_call8_call0_call0_v0 : Ref sig .tc := ⟨.hbm, 159, rfl⟩
abbrev main_call8_call0_call0_c : Ref sig .tc := ⟨.hbm, 160, rfl⟩
abbrev main_call8_call0_call0_v1 : Ref sig .tc := ⟨.hbm, 161, rfl⟩
abbrev main_call8_call0_call0_v2 : Ref sig .tc := ⟨.hbm, 162, rfl⟩
abbrev main_call8_call0_call0_v3 : Ref sig .tc := ⟨.hbm, 163, rfl⟩
abbrev main_call8_call0_call0_v4 : Ref sig .tc := ⟨.hbm, 164, rfl⟩
abbrev main_call8_call0_call0_v5 : Ref sig .tc := ⟨.hbm, 165, rfl⟩
abbrev main_call8_call0_call0_v6 : Ref sig .tc := ⟨.hbm, 166, rfl⟩
abbrev main_call8_call0_call0_c_0 : Ref sig .tc := ⟨.hbm, 167, rfl⟩
abbrev main_call8_call0_call0_v7 : Ref sig .tc := ⟨.hbm, 168, rfl⟩
abbrev main_call8_call0_call0_v8 : Ref sig .tc := ⟨.hbm, 169, rfl⟩
abbrev main_call8_call0_call0_c_1 : Ref sig .tc := ⟨.hbm, 170, rfl⟩
abbrev main_call8_call0_call0_v9 : Ref sig .tc := ⟨.hbm, 171, rfl⟩
abbrev main_call8_call0_call0_v10 : Ref sig .tc := ⟨.hbm, 172, rfl⟩
abbrev main_call8_call0_call0_v11 : Ref sig .tc := ⟨.hbm, 173, rfl⟩
abbrev main_call8_call0_call0_v12 : Ref sig .tc := ⟨.hbm, 174, rfl⟩
abbrev main_call8_call0_call0_v13 : Ref sig .tc := ⟨.hbm, 175, rfl⟩
abbrev main_call8_call0_call0_c_2 : Ref sig .tc := ⟨.hbm, 176, rfl⟩
abbrev main_call8_call0_call0_v14 : Ref sig .tc := ⟨.hbm, 177, rfl⟩
abbrev main_call8_call0_call0_v15 : Ref sig .tc := ⟨.hbm, 178, rfl⟩
abbrev main_call8_call0_call0_c_3 : Ref sig .tc := ⟨.hbm, 179, rfl⟩
abbrev main_call8_call0_call0_v16 : Ref sig .tc := ⟨.hbm, 180, rfl⟩
abbrev main_call8_call0_call0_v17 : Ref sig .tc := ⟨.hbm, 181, rfl⟩
abbrev main_call8_call0_call0_v18 : Ref sig .tc := ⟨.hbm, 182, rfl⟩
abbrev main_call8_call0_call0_v19 : Ref sig .tc := ⟨.hbm, 183, rfl⟩
abbrev main_call8_call0_call0_v20 : Ref sig .tc := ⟨.hbm, 184, rfl⟩
abbrev main_call8_call0_call0_c_4 : Ref sig .tc := ⟨.hbm, 185, rfl⟩
abbrev main_call8_call0_call0_v21 : Ref sig .tc := ⟨.hbm, 186, rfl⟩
abbrev main_call8_call0_call0_v22 : Ref sig .tc := ⟨.hbm, 187, rfl⟩
abbrev main_call8_call0_call0_c_5 : Ref sig .tc := ⟨.hbm, 188, rfl⟩
abbrev main_call8_call0_call0_v23 : Ref sig .tc := ⟨.hbm, 189, rfl⟩
abbrev main_call8_call0_call0_v24 : Ref sig .tc := ⟨.hbm, 190, rfl⟩
abbrev main_call8_call0_call0_v25 : Ref sig .tc := ⟨.hbm, 191, rfl⟩
abbrev main_call8_call0_call0_v26 : Ref sig .tc := ⟨.hbm, 192, rfl⟩
abbrev main_call8_call0_call0_v27 : Ref sig .tc := ⟨.hbm, 193, rfl⟩
abbrev main_call8_call0_call0_c_6 : Ref sig .tc := ⟨.hbm, 194, rfl⟩
abbrev main_call8_call0_call0_v28 : Ref sig .tc := ⟨.hbm, 195, rfl⟩
abbrev main_call8_call0_call0_v29 : Ref sig .tc := ⟨.hbm, 196, rfl⟩
abbrev main_call8_call0_call0_c_7 : Ref sig .tc := ⟨.hbm, 197, rfl⟩
abbrev main_call8_call0_call0_v30 : Ref sig .tc := ⟨.hbm, 198, rfl⟩
abbrev main_call8_call0_call0_v31 : Ref sig .tc := ⟨.hbm, 199, rfl⟩
abbrev main_call8_call0_call0_v32 : Ref sig .tc := ⟨.hbm, 200, rfl⟩
abbrev main_call8_call0_call0_v33 : Ref sig .tc := ⟨.hbm, 201, rfl⟩
abbrev main_call8_call0_call0_v34 : Ref sig .tc := ⟨.hbm, 202, rfl⟩
abbrev main_call8_call0_call0_v35 : Ref sig .tc := ⟨.hbm, 203, rfl⟩
abbrev main_call8_call0_call0_v36 : Ref sig .tc := ⟨.hbm, 204, rfl⟩
abbrev main_call8_call0_call0_v37 : Ref sig .tc := ⟨.hbm, 205, rfl⟩
abbrev main_call8_call0_call0_c_8 : Ref sig .tc := ⟨.hbm, 206, rfl⟩
abbrev main_call8_call0_call0_v38 : Ref sig .tc := ⟨.hbm, 207, rfl⟩
abbrev main_call8_call0_call0_v39 : Ref sig .tc := ⟨.hbm, 208, rfl⟩
abbrev main_call8_call0_call0_v40 : Ref sig .tc := ⟨.hbm, 209, rfl⟩
abbrev main_call8_call0_call0_c_9 : Ref sig .tc := ⟨.hbm, 210, rfl⟩
abbrev main_call8_call0_call0_v41 : Ref sig .tc := ⟨.hbm, 211, rfl⟩
abbrev main_call8_call0_call0_v42 : Ref sig .tc := ⟨.hbm, 212, rfl⟩
abbrev main_call8_call0_call0_c_10 : Ref sig .tc := ⟨.hbm, 213, rfl⟩
abbrev main_call8_call0_call0_v43 : Ref sig .tc := ⟨.hbm, 214, rfl⟩
abbrev main_call8_call0_call0_v44 : Ref sig .tc := ⟨.hbm, 215, rfl⟩
abbrev main_call8_call0_call0_v45 : Ref sig .tc := ⟨.hbm, 216, rfl⟩
abbrev main_call8_call0_call0_v46 : Ref sig .tc := ⟨.hbm, 217, rfl⟩
abbrev main_call8_call0_call0_v47 : Ref sig .tc := ⟨.hbm, 218, rfl⟩
abbrev main_call8_call0_call0_c_11 : Ref sig .tc := ⟨.hbm, 219, rfl⟩
abbrev main_call8_call0_call0_v48 : Ref sig .tc := ⟨.hbm, 220, rfl⟩
abbrev main_call8_call0_call0_v49 : Ref sig .tc := ⟨.hbm, 221, rfl⟩
abbrev main_call8_call0_call0_c_12 : Ref sig .tc := ⟨.hbm, 222, rfl⟩
abbrev main_call8_call0_call0_v50 : Ref sig .tc := ⟨.hbm, 223, rfl⟩
abbrev main_call8_call0_call0_v51 : Ref sig .tc := ⟨.hbm, 224, rfl⟩
abbrev main_call8_call0_call0_v52 : Ref sig .tc := ⟨.hbm, 225, rfl⟩
abbrev main_call8_call0_call0_v53 : Ref sig .tc := ⟨.hbm, 226, rfl⟩
abbrev main_call8_call0_call0_v54 : Ref sig .tc := ⟨.hbm, 227, rfl⟩
abbrev main_call8_call0_call0_c_13 : Ref sig .tc := ⟨.hbm, 228, rfl⟩
abbrev main_call8_call0_call0_v55 : Ref sig .tc := ⟨.hbm, 229, rfl⟩
abbrev main_call8_call0_call0_v56 : Ref sig .tc := ⟨.hbm, 230, rfl⟩
abbrev main_call8_call0_call0_c_14 : Ref sig .tc := ⟨.hbm, 231, rfl⟩
abbrev main_call8_call0_call0_v57 : Ref sig .tc := ⟨.hbm, 232, rfl⟩
abbrev main_call8_call0_call0_v58 : Ref sig .tc := ⟨.hbm, 233, rfl⟩
abbrev main_call8_call0_call0_v59 : Ref sig .tc := ⟨.hbm, 234, rfl⟩
abbrev main_call8_call0_call0_v60 : Ref sig .tc := ⟨.hbm, 235, rfl⟩
abbrev main_call8_call0_call0_v61 : Ref sig .tc := ⟨.hbm, 236, rfl⟩
abbrev main_call8_call0_call0_c_15 : Ref sig .tc := ⟨.hbm, 237, rfl⟩
abbrev main_call8_call0_call0_v62 : Ref sig .tc := ⟨.hbm, 238, rfl⟩
abbrev main_call8_call0_call0_v63 : Ref sig .tc := ⟨.hbm, 239, rfl⟩
abbrev main_call8_call0_call0_c_16 : Ref sig .tc := ⟨.hbm, 240, rfl⟩
abbrev main_call8_call0_call0_v64 : Ref sig .tc := ⟨.hbm, 241, rfl⟩
abbrev main_call8_call0_call0_v65 : Ref sig .tc := ⟨.hbm, 242, rfl⟩
abbrev main_call8_call0_call0_v66 : Ref sig .tc := ⟨.hbm, 243, rfl⟩
abbrev main_call8_call0_call0_v67 : Ref sig .tc := ⟨.hbm, 244, rfl⟩
abbrev main_call8_call0_call0_v68 : Ref sig .tc := ⟨.hbm, 245, rfl⟩
abbrev main_call8_call0_call0_v69 : Ref sig .tc := ⟨.hbm, 246, rfl⟩
abbrev main_call8_call0_call0_v70 : Ref sig .tc := ⟨.hbm, 247, rfl⟩
abbrev main_call8_call0_call0_v71 : Ref sig .tc := ⟨.hbm, 248, rfl⟩
abbrev main_call8_call0_call0_c_17 : Ref sig .tc := ⟨.hbm, 249, rfl⟩
abbrev main_call8_call0_call0_v72 : Ref sig .tc := ⟨.hbm, 250, rfl⟩
abbrev main_call8_call0_call0_v73 : Ref sig .tc := ⟨.hbm, 251, rfl⟩
abbrev main_call8_call0_call0_v74 : Ref sig .tc := ⟨.hbm, 252, rfl⟩
abbrev main_call8_call0_call0_c_18 : Ref sig .tc := ⟨.hbm, 253, rfl⟩
abbrev main_call8_call0_call0_v75 : Ref sig .tc := ⟨.hbm, 254, rfl⟩
abbrev main_call8_call0_call0_v76 : Ref sig .tc := ⟨.hbm, 255, rfl⟩
abbrev main_call8_call0_call0_c_19 : Ref sig .tc := ⟨.hbm, 256, rfl⟩
abbrev main_call8_call0_call0_v77 : Ref sig .tc := ⟨.hbm, 257, rfl⟩
abbrev main_call8_call0_call0_v78 : Ref sig .tc := ⟨.hbm, 258, rfl⟩
abbrev main_call8_call0_call0_v79 : Ref sig .tc := ⟨.hbm, 259, rfl⟩
abbrev main_call8_call0_call0_v80 : Ref sig .tc := ⟨.hbm, 260, rfl⟩
abbrev main_call8_call0_call0_v81 : Ref sig .tc := ⟨.hbm, 261, rfl⟩
abbrev main_call8_call0_call0_c_20 : Ref sig .tc := ⟨.hbm, 262, rfl⟩
abbrev main_call8_call0_call0_v82 : Ref sig .tc := ⟨.hbm, 263, rfl⟩
abbrev main_call8_call0_call0_v83 : Ref sig .tc := ⟨.hbm, 264, rfl⟩
abbrev main_call8_call0_call0_c_21 : Ref sig .tc := ⟨.hbm, 265, rfl⟩
abbrev main_call8_call0_call0_v84 : Ref sig .tc := ⟨.hbm, 266, rfl⟩
abbrev main_call8_call0_call0_v85 : Ref sig .tc := ⟨.hbm, 267, rfl⟩
abbrev main_call8_call0_call0_v86 : Ref sig .tc := ⟨.hbm, 268, rfl⟩
abbrev main_call8_call0_call0_v87 : Ref sig .tc := ⟨.hbm, 269, rfl⟩
abbrev main_call8_call0_call0_v88 : Ref sig .tc := ⟨.hbm, 270, rfl⟩
abbrev main_call8_call0_call0_c_22 : Ref sig .tc := ⟨.hbm, 271, rfl⟩
abbrev main_call8_call0_call0_v89 : Ref sig .tc := ⟨.hbm, 272, rfl⟩
abbrev main_call8_call0_call0_v90 : Ref sig .tc := ⟨.hbm, 273, rfl⟩
abbrev main_call8_call0_call0_c_23 : Ref sig .tc := ⟨.hbm, 274, rfl⟩
abbrev main_call8_call0_call0_v91 : Ref sig .tc := ⟨.hbm, 275, rfl⟩
abbrev main_call8_call0_call0_v92 : Ref sig .tc := ⟨.hbm, 276, rfl⟩
abbrev main_call8_call0_call0_v93 : Ref sig .tc := ⟨.hbm, 277, rfl⟩
abbrev main_call8_call0_call0_v94 : Ref sig .tc := ⟨.hbm, 278, rfl⟩
abbrev main_call8_call0_call0_v95 : Ref sig .tc := ⟨.hbm, 279, rfl⟩
abbrev main_call8_call0_call0_c_24 : Ref sig .tc := ⟨.hbm, 280, rfl⟩
abbrev main_call8_call0_call0_v96 : Ref sig .tc := ⟨.hbm, 281, rfl⟩
abbrev main_call8_call0_call0_v97 : Ref sig .tc := ⟨.hbm, 282, rfl⟩
abbrev main_call8_call0_call0_c_25 : Ref sig .tc := ⟨.hbm, 283, rfl⟩
abbrev main_call8_call0_call0_v98 : Ref sig .tc := ⟨.hbm, 284, rfl⟩
abbrev main_call8_call0_call0_v99 : Ref sig .tc := ⟨.hbm, 285, rfl⟩
abbrev main_call8_call0_call0_v100 : Ref sig .tc := ⟨.hbm, 286, rfl⟩
abbrev main_call8_call0_call0_v101 : Ref sig .tc := ⟨.hbm, 287, rfl⟩
abbrev main_call8_call0_call0_v102 : Ref sig .tc := ⟨.hbm, 288, rfl⟩
abbrev main_call8_call0_call0_v103 : Ref sig .tc := ⟨.hbm, 289, rfl⟩
abbrev main_call8_call0_call0_v104 : Ref sig .tc := ⟨.hbm, 290, rfl⟩
abbrev main_call8_call0_call0_v105 : Ref sig .tc := ⟨.hbm, 291, rfl⟩
abbrev main_call8_call0_call0_c_26 : Ref sig .tc := ⟨.hbm, 292, rfl⟩
abbrev main_call8_call0_call0_v106 : Ref sig .tc := ⟨.hbm, 293, rfl⟩
abbrev main_call8_call0_call0_v107 : Ref sig .tc := ⟨.hbm, 294, rfl⟩
abbrev main_call8_call0_call0_v108 : Ref sig .tc := ⟨.hbm, 295, rfl⟩
abbrev main_call8_call0_call0_c_27 : Ref sig .tc := ⟨.hbm, 296, rfl⟩
abbrev main_call8_call0_call0_v109 : Ref sig .tc := ⟨.hbm, 297, rfl⟩
abbrev main_call8_call0_call0_v110 : Ref sig .tc := ⟨.hbm, 298, rfl⟩
abbrev main_call8_call0_call0_c_28 : Ref sig .tc := ⟨.hbm, 299, rfl⟩
abbrev main_call8_call0_call0_v111 : Ref sig .tc := ⟨.hbm, 300, rfl⟩
abbrev main_call8_call0_call0_v112 : Ref sig .tc := ⟨.hbm, 301, rfl⟩
abbrev main_call8_call0_call0_v113 : Ref sig .tc := ⟨.hbm, 302, rfl⟩
abbrev main_call8_call0_call0_v114 : Ref sig .tc := ⟨.hbm, 303, rfl⟩
abbrev main_call8_call0_call0_v115 : Ref sig .tc := ⟨.hbm, 304, rfl⟩
abbrev main_call8_call0_call0_c_29 : Ref sig .tc := ⟨.hbm, 305, rfl⟩
abbrev main_call8_call0_call0_v116 : Ref sig .tc := ⟨.hbm, 306, rfl⟩
abbrev main_call8_call0_call0_v117 : Ref sig .tc := ⟨.hbm, 307, rfl⟩
abbrev main_call8_call0_call0_c_30 : Ref sig .tc := ⟨.hbm, 308, rfl⟩
abbrev main_call8_call0_call0_v118 : Ref sig .tc := ⟨.hbm, 309, rfl⟩
abbrev main_call8_call0_call0_v119 : Ref sig .tc := ⟨.hbm, 310, rfl⟩
abbrev main_call8_call0_call0_v120 : Ref sig .tc := ⟨.hbm, 311, rfl⟩
abbrev main_call8_call0_call0_v121 : Ref sig .tc := ⟨.hbm, 312, rfl⟩
abbrev main_call8_call0_call0_v122 : Ref sig .tc := ⟨.hbm, 313, rfl⟩
abbrev main_call8_call0_call0_c_31 : Ref sig .tc := ⟨.hbm, 314, rfl⟩
abbrev main_call8_call0_call0_v123 : Ref sig .tc := ⟨.hbm, 315, rfl⟩
abbrev main_call8_call0_call0_v124 : Ref sig .tc := ⟨.hbm, 316, rfl⟩
abbrev main_call8_call0_call0_c_32 : Ref sig .tc := ⟨.hbm, 317, rfl⟩
abbrev main_call8_call0_call0_v125 : Ref sig .tc := ⟨.hbm, 318, rfl⟩
abbrev main_call8_call0_call0_v126 : Ref sig .tc := ⟨.hbm, 319, rfl⟩
abbrev main_call8_call0_call0_v127 : Ref sig .tc := ⟨.hbm, 320, rfl⟩
abbrev main_call8_call0_call0_v128 : Ref sig .tc := ⟨.hbm, 321, rfl⟩
abbrev main_call8_call0_call0_v129 : Ref sig .tc := ⟨.hbm, 322, rfl⟩
abbrev main_call8_call0_call0_c_33 : Ref sig .tc := ⟨.hbm, 323, rfl⟩
abbrev main_call8_call0_call0_v130 : Ref sig .tc := ⟨.hbm, 324, rfl⟩
abbrev main_call8_call0_call0_v131 : Ref sig .tc := ⟨.hbm, 325, rfl⟩
abbrev main_call8_call0_call0_c_34 : Ref sig .tc := ⟨.hbm, 326, rfl⟩
abbrev main_call8_call0_call0_v132 : Ref sig .tc := ⟨.hbm, 327, rfl⟩
abbrev main_call8_call0_call0_v133 : Ref sig .tc := ⟨.hbm, 328, rfl⟩
abbrev main_call8_call0_call0_v134 : Ref sig .tc := ⟨.hbm, 329, rfl⟩
abbrev main_call8_call0_call0_v135 : Ref sig .tc := ⟨.hbm, 330, rfl⟩
abbrev main_call8_call0_call0_v136 : Ref sig .tc := ⟨.hbm, 331, rfl⟩
abbrev main_call8_call0_call0_v137 : Ref sig .tc := ⟨.hbm, 332, rfl⟩
abbrev main_call8_call0_call0_v138 : Ref sig .tc := ⟨.hbm, 333, rfl⟩
abbrev main_call8_call0_call0_v139 : Ref sig .tc := ⟨.hbm, 334, rfl⟩
abbrev main_call8_call0_call0_c_35 : Ref sig .tc := ⟨.hbm, 335, rfl⟩
abbrev main_call8_call0_call0_v140 : Ref sig .tc := ⟨.hbm, 336, rfl⟩
abbrev main_call8_call0_call0_v141 : Ref sig .tc := ⟨.hbm, 337, rfl⟩
abbrev main_call8_call0_call0_v142 : Ref sig .tc := ⟨.hbm, 338, rfl⟩
abbrev main_call8_call0_call0_c_36 : Ref sig .tc := ⟨.hbm, 339, rfl⟩
abbrev main_call8_call0_call0_v143 : Ref sig .tc := ⟨.hbm, 340, rfl⟩
abbrev main_call8_call0_call0_v144 : Ref sig .tc := ⟨.hbm, 341, rfl⟩
abbrev main_call8_call0_call0_c_37 : Ref sig .tc := ⟨.hbm, 342, rfl⟩
abbrev main_call8_call0_call0_v145 : Ref sig .tc := ⟨.hbm, 343, rfl⟩
abbrev main_call8_call0_call0_v146 : Ref sig .tc := ⟨.hbm, 344, rfl⟩
abbrev main_call8_call0_call0_v147 : Ref sig .tc := ⟨.hbm, 345, rfl⟩
abbrev main_call8_call0_call0_v148 : Ref sig .tc := ⟨.hbm, 346, rfl⟩
abbrev main_call8_call0_call0_v149 : Ref sig .tc := ⟨.hbm, 347, rfl⟩
abbrev main_call8_call0_call0_c_38 : Ref sig .tc := ⟨.hbm, 348, rfl⟩
abbrev main_call8_call0_call0_v150 : Ref sig .tc := ⟨.hbm, 349, rfl⟩
abbrev main_call8_call0_call0_v151 : Ref sig .tc := ⟨.hbm, 350, rfl⟩
abbrev main_call8_call0_call0_c_39 : Ref sig .tc := ⟨.hbm, 351, rfl⟩
abbrev main_call8_call0_call0_v152 : Ref sig .tc := ⟨.hbm, 352, rfl⟩
abbrev main_call8_call0_call0_v153 : Ref sig .tc := ⟨.hbm, 353, rfl⟩
abbrev main_call8_call0_call0_v154 : Ref sig .tc := ⟨.hbm, 354, rfl⟩
abbrev main_call8_call0_call0_v155 : Ref sig .tc := ⟨.hbm, 355, rfl⟩
abbrev main_call8_call0_call0_v156 : Ref sig .tc := ⟨.hbm, 356, rfl⟩
abbrev main_call8_call0_call0_c_40 : Ref sig .tc := ⟨.hbm, 357, rfl⟩
abbrev main_call8_call0_call0_v157 : Ref sig .tc := ⟨.hbm, 358, rfl⟩
abbrev main_call8_call0_call0_v158 : Ref sig .tc := ⟨.hbm, 359, rfl⟩
abbrev main_call8_call0_call0_c_41 : Ref sig .tc := ⟨.hbm, 360, rfl⟩
abbrev main_call8_call0_call0_v159 : Ref sig .tc := ⟨.hbm, 361, rfl⟩
abbrev main_call8_call0_call0_v160 : Ref sig .tc := ⟨.hbm, 362, rfl⟩
abbrev main_call8_call0_call0_v161 : Ref sig .tc := ⟨.hbm, 363, rfl⟩
abbrev main_call8_call0_call0_v162 : Ref sig .tc := ⟨.hbm, 364, rfl⟩
abbrev main_call8_call0_call0_v163 : Ref sig .tc := ⟨.hbm, 365, rfl⟩
abbrev main_call8_call0_call0_c_42 : Ref sig .tc := ⟨.hbm, 366, rfl⟩
abbrev main_call8_call0_call0_v164 : Ref sig .tc := ⟨.hbm, 367, rfl⟩
abbrev main_call8_call0_call0_v165 : Ref sig .tc := ⟨.hbm, 368, rfl⟩
abbrev main_call8_call0_call0_c_43 : Ref sig .tc := ⟨.hbm, 369, rfl⟩
abbrev main_call8_call0_call0_v166 : Ref sig .tc := ⟨.hbm, 370, rfl⟩
abbrev main_call8_call0_call0_v167 : Ref sig .tc := ⟨.hbm, 371, rfl⟩
abbrev main_call8_call0_call0_v168 : Ref sig .tc := ⟨.hbm, 372, rfl⟩
abbrev main_call8_call0_call0_v169 : Ref sig .tc := ⟨.hbm, 373, rfl⟩
abbrev main_call8_call0_call0_v170 : Ref sig .tc := ⟨.hbm, 374, rfl⟩
abbrev main_call8_call0_v18_0 : Ref sig .tc := ⟨.hbm, 375, rfl⟩
abbrev main_call8_call0_call0_v172 : Ref sig .tc := ⟨.hbm, 376, rfl⟩
abbrev main_call8_call0_call0_v173 : Ref sig .tc := ⟨.hbm, 377, rfl⟩
abbrev main_call8_call0_call0_c_44 : Ref sig .tc := ⟨.hbm, 378, rfl⟩
abbrev main_call8_call0_call0_v174 : Ref sig .tc := ⟨.hbm, 379, rfl⟩
abbrev main_call8_call0_v18_1 : Ref sig .tc := ⟨.hbm, 380, rfl⟩
abbrev main_call8_call0_v19 : Ref sig .tc := ⟨.hbm, 381, rfl⟩
abbrev main_call8_call0_c_2 : Ref sig .tc := ⟨.hbm, 382, rfl⟩
abbrev main_call8_call0_v20 : Ref sig .tc := ⟨.hbm, 383, rfl⟩
abbrev main_call8_call0_v21 : Ref sig .tc := ⟨.hbm, 384, rfl⟩
abbrev main_call8_call0_c_3 : Ref sig .tc := ⟨.hbm, 385, rfl⟩
abbrev main_call8_call0_v22 : Ref sig .tc := ⟨.hbm, 386, rfl⟩
abbrev main_call8_call0_v23 : Ref sig .tc := ⟨.hbm, 387, rfl⟩
abbrev main_call8_call0_v24 : Ref sig .tc := ⟨.hbm, 388, rfl⟩
abbrev main_call8_call0_cst : Ref sig .tc := ⟨.hbm, 389, rfl⟩
abbrev main_call8_call0_v25 : Ref sig .tc := ⟨.hbm, 390, rfl⟩
abbrev main_call8_call0_v26 : Ref sig .tc := ⟨.hbm, 391, rfl⟩
abbrev main_call8_call0_v27 : Ref sig .tc := ⟨.hbm, 392, rfl⟩
abbrev main_call8_call0_v28 : Ref sig .tc := ⟨.hbm, 393, rfl⟩
abbrev main_call8_call0_v29 : Ref sig .tc := ⟨.hbm, 394, rfl⟩
abbrev main_call8_call0_v30 : Ref sig .tc := ⟨.hbm, 395, rfl⟩
abbrev main_call8_call0_v31 : Ref sig .tc := ⟨.hbm, 396, rfl⟩
abbrev main_call8_call0_v32 : Ref sig .tc := ⟨.hbm, 397, rfl⟩
abbrev main_call8_v0 : Ref sig .tc := ⟨.hbm, 398, rfl⟩
abbrev main_call8_v1 : Ref sig .tc := ⟨.hbm, 399, rfl⟩
abbrev main_call8_v2 : Ref sig .tc := ⟨.hbm, 400, rfl⟩
abbrev main_call8_v3 : Ref sig .tc := ⟨.hbm, 401, rfl⟩
abbrev main_v48 : Ref sig .tc := ⟨.hbm, 402, rfl⟩
abbrev main_v49 : Ref sig .tc := ⟨.hbm, 403, rfl⟩
abbrev main_call9_v0 : Ref sig .tc := ⟨.hbm, 404, rfl⟩
abbrev main_call9_cst : Ref sig .tc := ⟨.hbm, 405, rfl⟩
abbrev main_call9_c : Ref sig .tc := ⟨.hbm, 406, rfl⟩
abbrev main_call9_v1_0 : Ref sig .tc := ⟨.hbm, 407, rfl⟩
abbrev main_v50 : Ref sig .tc := ⟨.hbm, 408, rfl⟩

abbrev nD : Nat := 1
abbrev τ : Topo := Topo.v7x

variable {F : FTy → Type} [FloatOps F]
-- ==== Proof.K.Position.lean ====
/-
  The decode position: what the preconditions say of it, and the pipeline's side condition that follows.
-/
module

public import proofs.«01_k».proof.Defs
public import proofs.«01_k».proof.Proof.Gen.Kernel.Frame
public import proofs.«01_k».proof.Proof.Gen.KernelIdeal.Frame
public import proofs.«01_k».proof.Proof.Gen.Pre_pos_ok
public import Idealize.ShloMosaic.Lib.StableHlo.Predicate

@[expose] public section

namespace Cert.Proof

open Idealize.ShloMosaic Idealize.ShloMosaic.TcCoe

/-- A word that is signed at least zero and below eight is, unsigned, below eight. -/
theorem word_lt (w : BitVec 32) (h : IntOp.andi (IntOp.cmpi .sge w 0#32) (IntOp.cmpi .slt w 8#32) = 1#1) : w.toNat < 8 := by
  have e : (BitVec.sle 0#32 w && BitVec.slt w 8#32) = true := by
    by_contra hn
    have : IntOp.andi (IntOp.cmpi .sge w 0#32) (IntOp.cmpi .slt w 8#32) = 0#1 := by
      simp only [IntOp.andi, IntOp.cmpi]
      revert hn
      cases BitVec.sle 0#32 w <;> cases BitVec.slt w 8#32 <;> simp
    rw [this] at h
    exact absurd h (by decide)
  rw [Bool.and_eq_true] at e
  have h0 := e.1; have h1 := e.2
  rw [BitVec.sle_iff_toInt_le] at h0
  rw [BitVec.slt_iff_toInt_lt] at h1
  have := w.isLt
  have e0 : (0#32 : BitVec 32).toInt = 0 := by decide
  have e8 : (8#32 : BitVec 32).toInt = 8 := by decide
  rw [e0] at h0
  rw [e8] at h1
  rw [BitVec.toInt_eq_toNat_cond] at h0 h1
  split at h0 <;> omega

/-- The printed kernel's side condition on its table follows from the position's range. -/
theorem ok_kernel {F : FTy → Type} [FloatOps F] (m : (ℓ : Loc Kernel.nD Kernel.τ Kernel.sig) → Buf (Elt F) ℓ)
    (h : ∀ x, ((m (((0 : Dev Kernel.nD) : Thread Kernel.nD Kernel.τ).loc Kernel.main_arg2) : Kernel.S1.Idx → BitVec 32) x).toNat < 8) : Kernel.Gen.Ok m := by
  intro i
  refine ⟨fun a => ?_, Or.inl rfl⟩
  match a with
  | ⟨0, _⟩ =>
    obtain ⟨y, hy⟩ : ∃ y, Kernel.cc0_transform_0 Kernel.Facts₀.inb_S1_S1_0 Kernel.Facts₀.numel1_S1 (Kernel.Gen.tbl m) i 0
        = ((m (((0 : Dev Kernel.nD) : Thread Kernel.nD Kernel.τ).loc Kernel.main_arg2) : Kernel.S1.Idx → BitVec 32) y).toNat := by
      rw [← Kernel.Gen.V_main_arg2 m 0]
      exact ⟨_, rfl⟩
    have hlt := h y
    rw [← hy] at hlt
    exact (Nat.mul_one _).le.trans hlt
  | ⟨1, _⟩ => show (0 + 1) * 32 ≤ 32; omega
  | ⟨2, _⟩ => show (0 + 1) * 1024 ≤ 1024; omega

/-- The same of the idealized kernel. -/
theorem ok_ideal {F : FTy → Type} [FloatOps F] (m : (ℓ : Loc KernelIdeal.nD KernelIdeal.τ KernelIdeal.sig) → Buf (Elt F) ℓ)
    (h : ∀ x, ((m (((0 : Dev KernelIdeal.nD) : Thread KernelIdeal.nD KernelIdeal.τ).loc KernelIdeal.main_arg2) : KernelIdeal.S1.Idx → BitVec 32) x).toNat < 8) : KernelIdeal.Gen.Ok m := by
  intro i
  refine ⟨fun a => ?_, Or.inl rfl⟩
  match a with
  | ⟨0, _⟩ =>
    obtain ⟨y, hy⟩ : ∃ y, KernelIdeal.cc0_transform_0 KernelIdeal.Facts₀.inb_S1_S1_0 KernelIdeal.Facts₀.numel1_S1 (KernelIdeal.Gen.tbl m) i 0
        = ((m (((0 : Dev KernelIdeal.nD) : Thread KernelIdeal.nD KernelIdeal.τ).loc KernelIdeal.main_arg2) : KernelIdeal.S1.Idx → BitVec 32) y).toNat := by
      rw [← KernelIdeal.Gen.V_main_arg2 m 0]
      exact ⟨_, rfl⟩
    have hlt := h y
    rw [← hy] at hlt
    exact (Nat.mul_one _).le.trans hlt
  | ⟨1, _⟩ => show (0 + 1) * 32 ≤ 32; omega
  | ⟨2, _⟩ => show (0 + 1) * 1024 ≤ 1024; omega

/-- `pos_ok` bounds the position, for the printed kernel; -/
theorem pos_kernel (m : (ℓ : Loc Kernel.nD Kernel.τ Kernel.sig) → Buf (Elt Bits) ℓ) (h : Pre_Kernel m) (c : Dev Kernel.nD) (x) :
    ((m ((c.tc : Thread Kernel.nD Kernel.τ).loc Kernel.main_arg2) : Kernel.S1.Idx → BitVec 32) x).toNat < 8 :=
  word_lt _ (congrFun (h c) x)

/-- and for the idealized one. -/
theorem pos_ideal (m : (ℓ : Loc KernelIdeal.nD KernelIdeal.τ KernelIdeal.sig) → Buf (Elt Ideal) ℓ) (h : Pre_KernelIdeal m) (c : Dev KernelIdeal.nD) (x) :
    ((m ((c.tc : Thread KernelIdeal.nD KernelIdeal.τ).loc KernelIdeal.main_arg2) : KernelIdeal.S1.Idx → BitVec 32) x).toNat < 8 :=
  word_lt _ (congrFun (h c) x)

end Cert.Proof
-- ==== Proof.R.Frame.lean ====
/-
  The reference's frame: it runs, leaves its arguments unchanged and every semaphore counter at zero.
-/
module

public import proofs.«01_k».proof.Defs
public import proofs.«01_k».proof.Proof.Gen.ReferenceIdeal
public import Idealize.ShloMosaic.Lib.StableHlo.RunHlo
public import Idealize.ShloMosaic.Lib.Claim
public import Idealize.ShloMosaic.Lib.Quiescent
public import Idealize.ShloMosaic.Lib.Tactic

@[expose] public section

namespace Cert.Proof

open Idealize.ShloMosaic Idealize.ShloMosaic.TcCoe Idealize.SL.Sem

set_option maxHeartbeats 4000000 in
/-- The reference's frame, from any memory. -/
theorem frame_reference : Cert.quiescent_ReferenceIdeal := by
  intro m g _
  refine θ_run_mono ?_ fun r hr => ⟨hr, sem_eq_zero_of_no_sems (by decide) _⟩
  hlo_run

end Cert.Proof
-- ==== Proof.V.First.lean ====
/-
  The first position of a greatest entry, and the folds that find one.
-/
module

public import Idealize.ShloMosaic.PureOps.Ideal.Laws
public import Idealize.ShloMosaic.Lib.StableHlo.Predicate

@[expose] public section

namespace Cert.Proof

open Idealize.ShloMosaic

/-- Position `v` is the first one below `n` at which `f` is greatest. -/
def First (f : ℕ → ℝ) (n v : ℕ) : Prop := v < n ∧ (∀ u, u < n → f u ≤ f v) ∧ ∀ u, u < v → f u < f v

/-- There is one. -/
theorem First.exists (f : ℕ → ℝ) (n : ℕ) (hn : 0 < n) : ∃ v, First f n v := by
  classical
  obtain ⟨w, hw, hmax⟩ := Finset.exists_max_image (Finset.range n) f ⟨0, Finset.mem_range.mpr hn⟩
  have hex : ∃ v, v < n ∧ f v = f w := ⟨w, Finset.mem_range.mp hw, rfl⟩
  refine ⟨Nat.find hex, (Nat.find_spec hex).1, fun u hu => ?_, fun u hu => ?_⟩
  · rw [(Nat.find_spec hex).2]; exact hmax u (Finset.mem_range.mpr hu)
  · have h := Nat.find_min hex hu
    have hun : u < n := lt_trans hu (Nat.find_spec hex).1
    rw [(Nat.find_spec hex).2]
    exact lt_of_le_of_ne (hmax u (Finset.mem_range.mpr hun)) fun e => h ⟨hun, e⟩

/-- And only one. -/
theorem First.unique {f : ℕ → ℝ} {n v w : ℕ} (hv : First f n v) (hw : First f n w) : v = w := by
  rcases lt_trichotomy v w with h | h | h
  · exact absurd (hw.2.2 v h) (not_lt.mpr (hv.2.1 w hw.1))
  · exact h
  · exact absurd (hv.2.2 w h) (not_lt.mpr (hw.2.1 v hv.1))

/-- Two stretches in a row: the second's first greatest position wins exactly when it exceeds the first's. -/
theorem First.append_gt {f : ℕ → ℝ} {n d v c : ℕ} (hv : First f n v) (hc : First (fun u => f (n + u)) d c) (h : f v < f (n + c)) :
    First f (n + d) (n + c) := by
  refine ⟨Nat.add_lt_add_left hc.1 n, fun u hu => ?_, fun u hu => ?_⟩
  · rcases lt_or_ge u n with h' | h'
    · exact (hv.2.1 u h').trans h.le
    · obtain ⟨k, rfl⟩ := Nat.exists_eq_add_of_le h'
      exact hc.2.1 k (by omega)
  · rcases lt_or_ge u n with h' | h'
    · exact (hv.2.1 u h').trans_lt h
    · obtain ⟨k, rfl⟩ := Nat.exists_eq_add_of_le h'
      exact hc.2.2 k (by omega)

theorem First.append_le {f : ℕ → ℝ} {n d v c : ℕ} (hv : First f n v) (hc : First (fun u => f (n + u)) d c) (h : f (n + c) ≤ f v) :
    First f (n + d) v := by
  refine ⟨Nat.lt_add_right d hv.1, fun u hu => ?_, hv.2.2⟩
  rcases lt_or_ge u n with h' | h'
  · exact hv.2.1 u h'
  · obtain ⟨k, rfl⟩ := Nat.exists_eq_add_of_le h'
    exact (hc.2.1 k (by omega)).trans h

/-- The greatest entry of a nonempty vector of reals, folded from the least value. -/
theorem fold_max_coe {n : ℕ} (g : Fin n → EReal) (f : ℕ → ℝ) (hg : ∀ k : Fin n, g k = (f k.val : EReal)) (v : ℕ) (hv : First f n v) :
    (Finset.univ : Finset (Fin n)).fold max ⊥ g = (f v : EReal) := by
  apply le_antisymm
  · rw [Finset.fold_max_le]
    exact ⟨bot_le, fun k _ => by rw [hg k]; exact EReal.coe_le_coe_iff.mpr (hv.2.1 _ k.isLt)⟩
  · rw [Finset.le_fold_max]
    exact Or.inr ⟨⟨v, hv.1⟩, Finset.mem_univ _, (hg ⟨v, hv.1⟩).ge⟩

/-- Folding the signed minimum over words below 2³¹ gives a lower bound that is one of them. -/
theorem fold_minsi {ι : Type} [DecidableEq ι] (S : Finset ι) (a : BitVec 32) (ha : a.toNat < 2 ^ 31) (g : ι → BitVec 32) (hg : ∀ i, (g i).toNat < 2 ^ 31) :
    (S.fold IntOp.minsi a g).toNat ≤ a.toNat ∧ (∀ i ∈ S, (S.fold IntOp.minsi a g).toNat ≤ (g i).toNat)
      ∧ (S.fold IntOp.minsi a g = a ∨ ∃ i ∈ S, S.fold IntOp.minsi a g = g i) := by
  induction S using Finset.cons_induction with
  | empty => simp
  | cons i S hi ih =>
    rw [Finset.fold_cons]
    obtain ⟨h1, h2, h3⟩ := ih
    have hr : (S.fold IntOp.minsi a g).toNat < 2 ^ 31 := h1.trans_lt ha
    have hm : IntOp.minsi (g i) (S.fold IntOp.minsi a g) = if (g i).toNat ≤ (S.fold IntOp.minsi a g).toNat then g i else S.fold IntOp.minsi a g := by
      have e1 := StableHlo.Predicate.toInt_eq_toNat_of_lt (hg i)
      have e2 := StableHlo.Predicate.toInt_eq_toNat_of_lt hr
      simp only [IntOp.minsi, BitVec.sle, BitVec.slt, e1, e2, decide_eq_true_eq]
      split <;> split <;> first | rfl | omega | (apply BitVec.eq_of_toNat_eq; omega)
    rw [hm]
    split
    · rename_i hle
      refine ⟨hle.trans h1, fun k hk => ?_, Or.inr ⟨i, by simp, rfl⟩⟩
      rcases Finset.mem_cons.mp hk with rfl | hk
      · exact le_rfl
      · exact hle.trans (h2 k hk)
    · rename_i hle
      refine ⟨h1, fun k hk => ?_, ?_⟩
      · rcases Finset.mem_cons.mp hk with rfl | hk
        · omega
        · exact h2 k hk
      · rcases h3 with h3 | ⟨k, hk, h3⟩
        · exact Or.inl h3
        · exact Or.inr ⟨k, by simp [hk], h3⟩

end Cert.Proof
-- ==== Proof.V.Tile.lean ====
/-
  One tile's update of the running maxima and indices, over the reals: the running pair stays the first greatest position of
  the row's entries seen so far.
-/
module

public import proofs.«01_k».proof.Proof.Gen.KernelIdeal.Skeleton
public import proofs.«01_k».proof.Proof.Gen.KernelIdeal
public import proofs.«01_k».proof.Proof.V.First
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.KernelIdeal.Proof

open Cert.KernelIdeal Cert.KernelIdeal.Gen Cert.Proof
open Idealize.ShloMosaic Idealize.ShloMosaic.ValueIdx

variable (i : grid0.Coords) (x : Vec Ideal S1x32x1024 .f32) (e : Vec Ideal S2000x1024 .f32)

/-- A tile's logits: the inner products of the rows with the tile's vectors. -/
theorem logits_apply (b : Fin 32) (c : Fin 2000) :
    k0_pay3 x e (ix2 b c) = ∑ k : Fin 1024, x (ix3 0 b k) * e (ix2 c k) := by
  have h := Ideal.matmul_transposedRhs_apply (M := 32) (K := 1024) (N := 2000) (φ₁ := .f32) (φ₂ := .f32) none
    (shapeCast S32x1024 x shapeCasts_S1x32x1024_S32x1024) e (constant S32x2000 .f32 0x00000000#32) b c
  have hz : (constant S32x2000 .f32 0x00000000#32 : FVec Ideal S32x2000 .f32) (ix2 b c) = 0 := Ideal.ofBits_zero_f32
  rw [hz, zero_add] at h
  refine Eq.trans h (Finset.sum_congr rfl fun k _ => ?_)
  rw [show shapeCast S32x1024 x shapeCasts_S1x32x1024_S32x1024 (ix2 b k) = x (ix3 0 b k) from shapeCast_1ab_ab_apply x _ b k]

variable {x e} {f : ℕ → ℝ} {b : Fin 32} {c : ℕ}

/-- A row's maximum over a tile is its entry at the first greatest position. -/
theorem max_apply (hf : ∀ k : Fin 2000, k0_pay3 x e (ix2 b k) = (f k.val : EReal)) (hc : First f 2000 c) :
    k0_pay4 x e (ix2 b 0) = (f c : EReal) := by
  have h := Ideal.multiReduction_maximumf_single (a := (1 : Fin 2)) (k0_pay3 x e) 0xFF800000#32 reduces_S32x2000_S32 (.inl rfl) rfl (ix1 b)
  have hb : (FloatOps.ofBits .f32 0xFF800000#32 : Ideal .f32) = ⊥ := by simp [Ideal.ofBits, Ideal.ieee]
  rw [hb] at h
  refine ((shapeCast_a_a1_apply _ shapeCasts_S32_S32x1 b 0).trans h).trans (fold_max_coe _ f (fun k => ?_) c hc)
  · refine (congrArg (k0_pay3 x e) ?_).trans (hf k)
    funext a; match a with | ⟨0, _⟩ => rfl | ⟨1, _⟩ => rfl

/-- A tile's positions, with the tile's length in place of those that do not hold the row's maximum. -/
abbrev marks (x : Vec Ideal S1x32x1024 .f32) (e : Vec Ideal S2000x1024 .f32) : IVec S32x2000 32 :=
  select (cmpf .oeq (k0_pay3 x e) (broadcastTo S32x2000 (k0_pay4 x e) broadcasts_S32x1_S32x2000))
    (iota .tc S32x2000 32 [1] iota_S32x2000_d1_w32) (broadcast S32x2000 2000#32)

theorem marks_apply (hf : ∀ k : Fin 2000, k0_pay3 x e (ix2 b k) = (f k.val : EReal)) (hc : First f 2000 c) (k : Fin 2000) :
    marks x e (ix2 b k) = if f k.val = f c then BitVec.ofNat 32 k.val else 2000#32 := by
  have hbc : broadcastTo S32x2000 (k0_pay4 x e) broadcasts_S32x1_S32x2000 (ix2 b k) = (f c : EReal) := by
    rw [← max_apply hf hc]
    exact broadcastTo_apply _ _ _ (ix2 b (0 : Fin 1)) fun a => by match a with | ⟨0, _⟩ => rfl | ⟨1, _⟩ => rfl
  have hi : iota .tc S32x2000 32 [1] iota_S32x2000_d1_w32 (ix2 b k) = BitVec.ofNat 32 k.val :=
    iota_single_apply _ _ _ _ _ _
  show Scalar.select (Ideal.cmp .oeq (k0_pay3 x e (ix2 b k)) (broadcastTo S32x2000 (k0_pay4 x e) broadcasts_S32x1_S32x2000 (ix2 b k)))
    (iota .tc S32x2000 32 [1] iota_S32x2000_d1_w32 (ix2 b k)) 2000#32 = _
  rw [hbc, hf k, hi]
  by_cases h : f k.val = f c <;> simp [h, Ideal.cmp, Scalar.select]

/-- A signed minimum along one axis, as a fold over that axis. -/
theorem min_single {s t : Shape} {a : Fin s.rank} (h : s.Reduces [a] t) (m : IVec s 32) (j : t.Idx) :
    multiReductionI .minsi [a] t m 2147483647#32 h rfl j
      = (Finset.univ : Finset (Fin (s.size a))).fold IntOp.minsi 2147483647#32 (m ∘ h.lift j) := by
  have h1 := multiReductionI_eq_fold .minsi m 2147483647#32 h rfl j
  exact h1.trans (h.fold_filter_drop_single IntOp.minsi 2147483647#32 m j)

/-- A row's signed minimum, as a fold over the row. -/
theorem minRow (m : IVec S32x2000 32) (b : Fin 32) :
    multiReductionI .minsi [1] S32 m 2147483647#32 reduces_S32x2000_S32 rfl (ix1 b)
      = (Finset.univ : Finset (Fin 2000)).fold IntOp.minsi 2147483647#32 fun k => m (ix2 b k) := by
  have h := min_single (a := (1 : Fin 2)) reduces_S32x2000_S32 m (ix1 b)
  have hk : ∀ k : Fin 2000, reduces_S32x2000_S32.lift (ix1 b) k = ix2 b k := fun k => by
    funext a; match a with | ⟨0, _⟩ => rfl | ⟨1, _⟩ => rfl
  have he : (m ∘ reduces_S32x2000_S32.lift (ix1 b) : Fin 2000 → BitVec 32) = fun k => m (ix2 b k) := funext fun k => congrArg m (hk k)
  exact h.trans (congrArg (fun g : Fin 2000 → BitVec 32 => (Finset.univ : Finset (Fin 2000)).fold IntOp.minsi 2147483647#32 g) he)

/-- The least position of a row's maximum in a tile, as a word. -/
theorem least_apply (hf : ∀ k : Fin 2000, k0_pay3 x e (ix2 b k) = (f k.val : EReal)) (hc : First f 2000 c) :
    multiReductionI .minsi [1] S32 (marks x e) 2147483647#32 reduces_S32x2000_S32 rfl (ix1 b) = BitVec.ofNat 32 c := by
  have hm := marks_apply hf hc
  have hw : ∀ k : ℕ, k < 2000 → (BitVec.ofNat 32 k).toNat = k := fun k hk => by rw [BitVec.toNat_ofNat]; omega
  rw [minRow]
  obtain ⟨-, h2, h3⟩ := fold_minsi (Finset.univ : Finset (Fin 2000)) 2147483647#32 (by decide) (fun k => marks x e (ix2 b k)) fun k => by
    rw [hm k]
    split
    · rw [hw _ k.isLt]; have := k.isLt; omega
    · decide
  have hle := h2 ⟨c, hc.1⟩ (Finset.mem_univ _)
  rw [hm, if_pos rfl, hw c hc.1] at hle
  have hcl := hc.1
  rcases h3 with h3 | ⟨i, -, h3⟩
  · rw [h3] at hle
    have : (2147483647#32).toNat = 2147483647 := rfl
    omega
  · rw [h3]
    rw [h3] at hle
    rw [hm i] at hle ⊢
    split at hle
    · rename_i hi
      rw [hw _ i.isLt] at hle
      rw [if_pos hi]
      rcases Nat.lt_or_ge i.val c with hlt | hge
      · exact absurd hi (hc.2.2 _ hlt).ne
      · rw [le_antisymm hle hge]
    · have : (2000#32).toNat = 2000 := rfl
      omega

/-- Whether a tile's maximum exceeds the best so far, row by row. -/
theorem beats_apply (v : Vec Ideal S32x1 .f32) (hf : ∀ k : Fin 2000, k0_pay3 x e (ix2 b k) = (f k.val : EReal)) (hc : First f 2000 c) :
    k0_pay5 x e v (ix2 b 0) = BitVec.ofBool (decide (v (ix2 b 0) < (f c : EReal))) := by
  rw [← max_apply hf hc]
  unfold k0_pay5
  generalize k0_pay4 x e = p
  rfl

theorem best_apply (v : Vec Ideal S32x1 .f32) (hf : ∀ k : Fin 2000, k0_pay3 x e (ix2 b k) = (f k.val : EReal)) (hc : First f 2000 c) :
    k0_pay6 x e v v (ix2 b 0) = if v (ix2 b 0) < (f c : EReal) then (f c : EReal) else v (ix2 b 0) := by
  have h : k0_pay6 x e v v (ix2 b 0) = Scalar.select (k0_pay5 x e v (ix2 b 0)) (k0_pay4 x e (ix2 b 0)) (v (ix2 b 0)) := by
    unfold k0_pay6
    rw [shapeCast_self]
    generalize k0_pay5 x e v = q
    generalize k0_pay4 x e = p
    rfl
  rw [h, beats_apply v hf hc, max_apply hf hc]
  by_cases hv : v (ix2 b 0) < (f c : EReal) <;> simp [hv, Scalar.select]

theorem index_apply (i : grid0.Coords) (v : Vec Ideal S32x1 .f32) (w : Vec Ideal S32x1 .i32)
    (hf : ∀ k : Fin 2000, k0_pay3 x e (ix2 b k) = (f k.val : EReal)) (hc : First f 2000 c) :
    k0_pay7 i x e v w (ix2 b 0) = if v (ix2 b 0) < (f c : EReal) then BitVec.ofNat 32 (2000 * (i 0).val + c) else w (ix2 b 0) := by
  have h : k0_pay7 i x e v w (ix2 b 0) = Scalar.select (k0_pay5 x e v (ix2 b 0))
      (shapeCast S32x1 (multiReductionI .minsi [1] S32 (marks x e) 2147483647#32 reduces_S32x2000_S32 rfl) shapeCasts_S32_S32x1 (ix2 b 0)
        + BitVec.ofNat 32 (i 0).val * 2000#32) (w (ix2 b 0)) := by
    unfold k0_pay7 marks
    dsimp only
    rw [shapeCast_self]
    generalize k0_pay5 x e v = q
    generalize shapeCast S32x1 (multiReductionI (t := S32) _ _ _ _ _ _) _ = p
    rfl
  have hl := (shapeCast_a_a1_apply (multiReductionI .minsi [1] S32 (marks x e) 2147483647#32 reduces_S32x2000_S32 rfl) shapeCasts_S32_S32x1 b 0).trans
    (least_apply hf hc)
  have ha : BitVec.ofNat 32 c + BitVec.ofNat 32 (i 0).val * 2000#32 = BitVec.ofNat 32 (2000 * (i 0).val + c) := by
    rw [← BitVec.ofNat_mul, ← BitVec.ofNat_add, mul_comm, add_comm]
  rw [h, beats_apply v hf hc, hl, ha]
  by_cases hv : v (ix2 b 0) < (f c : EReal) <;> simp [hv, Scalar.select]

/-- What the scratch holds of row `b` once `n` entries have been read: the first greatest entry's position and value. -/
def Best (L : ℕ → ℝ) (n : ℕ) (b : Fin 32) (bv : Vec Ideal S32x1 .f32) (bi : Vec Ideal S32x1 .i32) : Prop :=
  ∃ v, First L n v ∧ bv (ix2 b 0) = (L v : EReal) ∧ bi (ix2 b 0) = BitVec.ofNat 32 v

/-- After the first tile it is the tile's own. -/
theorem best_first (L : ℕ → ℝ) (i : grid0.Coords) (hi : (i 0).val = 0)
    (hf : ∀ k : Fin 2000, k0_pay3 x e (ix2 b k) = (L (2000 * (i 0).val + k.val) : EReal)) :
    Best L (2000 * (i 0).val + 2000) b (k0_pay6 x e (k0_pay1 (F := Ideal)) (k0_pay1 (F := Ideal))) (k0_pay7 i x e (k0_pay1 (F := Ideal)) (k0_pay2)) := by
  obtain ⟨c, hc⟩ := First.exists (fun u => L (2000 * (i 0).val + u)) 2000 (by decide)
  have hb : (k0_pay1 (F := Ideal)) (ix2 b 0) = ⊥ := by
    unfold k0_pay1
    rw [shapeCast_self]
    show Ideal.ofBits .f32 0xFF800000#32 = ⊥
    simp [Ideal.ofBits, Ideal.ieee]
  refine ⟨2000 * (i 0).val + c, ?_, ?_, ?_⟩
  · simpa [hi] using hc
  · rw [best_apply _ hf hc, hb, if_pos (EReal.bot_lt_coe _)]
  · rw [index_apply i _ _ hf hc, hb, if_pos (EReal.bot_lt_coe _)]

/-- And a later tile's is put beside the best before it. -/
theorem best_step (L : ℕ → ℝ) (i : grid0.Coords) (bv : Vec Ideal S32x1 .f32) (bi : Vec Ideal S32x1 .i32)
    (hf : ∀ k : Fin 2000, k0_pay3 x e (ix2 b k) = (L (2000 * (i 0).val + k.val) : EReal)) (h : Best L (2000 * (i 0).val) b bv bi) :
    Best L (2000 * (i 0).val + 2000) b (k0_pay6 x e bv bv) (k0_pay7 i x e bv bi) := by
  obtain ⟨c, hc⟩ := First.exists (fun u => L (2000 * (i 0).val + u)) 2000 (by decide)
  obtain ⟨v, hv, h1, h2⟩ := h
  rcases lt_or_ge (L v) (L (2000 * (i 0).val + c)) with hlt | hge
  · refine ⟨_, hv.append_gt hc hlt, ?_, ?_⟩
    · rw [best_apply _ hf hc, h1, if_pos (EReal.coe_lt_coe_iff.mpr hlt)]
    · rw [index_apply i _ _ hf hc, h1, if_pos (EReal.coe_lt_coe_iff.mpr hlt)]
  · refine ⟨v, hv.append_le hc hge, ?_, ?_⟩
    · rw [best_apply _ hf hc, h1, if_neg (fun h => not_lt.mpr hge (EReal.coe_lt_coe_iff.mp h))]
    · rw [index_apply i _ _ hf hc, h1, if_neg (fun h => not_lt.mpr hge (EReal.coe_lt_coe_iff.mp h)), h2]

end Cert.KernelIdeal.Proof
-- ==== Proof.V.Points.lean ====
/-
  What the argmax kernel's body leaves at each grid point, in terms of its payloads.
-/
module

public import proofs.«01_k».proof.Proof.Gen.KernelIdeal.Frame
public import Idealize.ShloMosaic.Lib.Pipeline.Value

@[expose] public section

noncomputable section

namespace Cert.KernelIdeal.Proof

open Cert.KernelIdeal Cert.KernelIdeal.Gen
open Idealize.ShloMosaic
open Idealize.ShloMosaic.TcCoe Idealize.ShloMosaic.Tactic

theorem z2 : (![0, 0] : Fin 2 → Nat) = fun _ => 0 := funext fun a => by fin_cases a <;> rfl
theorem z3 : (![0, 0, 0] : Fin 3 → Nat) = fun _ => 0 := funext fun a => by fin_cases a <;> rfl

section Whole

variable {Val : EltTy → Type} {κ : Kind} {sp : Space} {S : Shape} {e : EltTy}

/-- A load of a memref's whole box reads its contents. -/
theorem readAt_whole (v : View sig κ sp S e) {off : Fin S.rank → Nat} (h : off = fun _ => 0)
    (inb : ∀ a, off a + S.size a ≤ S.size a) (f : v.ty.Contents Val) :
    v.readAt Val (Rect.unit off S.size inb).toLoadRect f = v.read Val f :=
  (View.readAt_eq_ld v f (Rect.unit off S.size inb)).trans (View.ld_unit_zero h inb _)

/-- After a store over a memref's whole box, last, its contents are the stored vector. -/
theorem read_writes_whole [∀ e, Nonempty (Val e)] (v : View sig κ sp S e) {off : Fin S.rank → Nat} (h : off = fun _ => 0)
    (inb : ∀ a, off a + S.size a ≤ S.size a) (f : v.ty.Contents Val) (w : S.Idx → Val e) (L : List (View.Piece Val S e)) :
    v.read Val (v.writes Val f (⟨Rect.unit off S.size inb, w⟩ :: L)) = w := by
  subst h
  rw [View.read_writes_eq_canon v f _ (fun y => ⟨_, List.mem_cons_self, by
    rw [Rect.mem_set_unit]; intro a; have := (y a).isLt; omega⟩), View.canon_cons_unit_zero rfl]

/-- A load of the whole box after such a store reads the stored vector. -/
theorem readCov_whole [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    rw [Rect.mem_set_unit]; intro a; have := (y a).isLt; omega⟩), View.canon_cons_unit_zero rfl, View.ld_unit_zero rfl]

end Whole

variable {F : FTy → Type} [FloatOps F]

variable (c : Dev nD) (i : grid0.Coords) (a2 : Memref sig .tc .vmem S1x32x1024 .f32) (h2 : a2.IsWhole) (a3 : Memref sig .tc .vmem S2000x1024 .f32) (h3 : a3.IsWhole)
  (a4 : Memref sig .tc .vmem S32x1 .i32) (h4 : a4.IsWhole) (a5 : Memref sig .tc .vmem S32x1 .f32) (h5 : a5.IsWhole) (a6 : Memref sig .tc .vmem S32x1 .i32) (h6 : a6.IsWhole)
  (x : Vec F S1x32x1024 .f32) (e : Vec F S2000x1024 .f32) (tb : TbBuf0 (F := F) c tbM0_0) (bv : Vec F S32x1 .f32) (bi : Vec F S32x1 .i32)

/-- At a middle point the running maxima become the pointwise update's. -/
theorem mid_val (hc0 : ¬cond0_0 i) (hc1 : ¬cond0_1 i) : sout0_B_0 c i a2 h2 a3 h3 a4 h4 a5 h5 a6 h6 hc0 hc1 x e tb bv bi = k0_pay6 x e bv bv := by
  unfold sout0_B_0 kernelRun0_B
  dsimp only
  sl_unfold_words
  simp only [read_writes_whole (S := S32x1) _ z2, readAt_whole (S := S32x1) _ z2, readAt_whole (S := S2000x1024) _ z2, readAt_whole (S := S1x32x1024) _ z3, readCov_whole (S := S32x1) _ z2,
    h2.read_unread, h3.read_unread, h5.read_unread, h6.read_unread]
/-- And the running indices. -/
theorem mid_idx (hc0 : ¬cond0_0 i) (hc1 : ¬cond0_1 i) : sout0_B_1 c i a2 h2 a3 h3 a4 h4 a5 h5 a6 h6 hc0 hc1 x e tb bv bi = k0_pay7 i x e bv bi := by
  unfold sout0_B_1 kernelRun0_B
  dsimp only
  sl_unfold_words
  simp only [read_writes_whole (S := S32x1) _ z2, readAt_whole (S := S32x1) _ z2, readAt_whole (S := S2000x1024) _ z2, readAt_whole (S := S1x32x1024) _ z3, readCov_whole (S := S32x1) _ z2,
    h2.read_unread, h3.read_unread, h5.read_unread, h6.read_unread]
/-- At the first point the running maxima start from the least value. -/
theorem first_val (hc0 : cond0_0 i) (hc1 : ¬cond0_1 i) : sout0_A_0 c i a2 h2 a3 h3 a4 h4 a5 h5 a6 h6 hc0 hc1 x e tb = k0_pay6 x e k0_pay1 k0_pay1 := by
  unfold sout0_A_0 kernelRun0_A
  dsimp only
  sl_unfold_words
  simp only [read_writes_whole (S := S32x1) _ z2, readAt_whole (S := S32x1) _ z2, readAt_whole (S := S2000x1024) _ z2, readAt_whole (S := S1x32x1024) _ z3, readCov_whole (S := S32x1) _ z2,
    h2.read_unread, h3.read_unread, h5.read_unread, h6.read_unread]
/-- And the running indices from zero. -/
theorem first_idx (hc0 : cond0_0 i) (hc1 : ¬cond0_1 i) : sout0_A_1 c i a2 h2 a3 h3 a4 h4 a5 h5 a6 h6 hc0 hc1 x e tb = k0_pay7 i x e k0_pay1 k0_pay2 := by
  unfold sout0_A_1 kernelRun0_A
  dsimp only
  sl_unfold_words
  simp only [read_writes_whole (S := S32x1) _ z2, readAt_whole (S := S32x1) _ z2, readAt_whole (S := S2000x1024) _ z2, readAt_whole (S := S1x32x1024) _ z3, readCov_whole (S := S32x1) _ z2,
    h2.read_unread, h3.read_unread, h5.read_unread, h6.read_unread]
/-- At the last point the result's block receives the updated indices. -/
theorem last_out (hc0 : ¬cond0_0 i) (hc1 : cond0_1 i) : out0_C_2 c i a2 h2 a3 h3 a4 h4 a5 h5 a6 h6 hc0 hc1 x e tb bv bi = k0_pay7 i x e bv bi := by
  unfold out0_C_2 kernelRun0_C
  dsimp only
  sl_unfold_words
  simp only [read_writes_whole (S := S32x1) _ z2, readAt_whole (S := S32x1) _ z2, readAt_whole (S := S2000x1024) _ z2, readAt_whole (S := S1x32x1024) _ z3, readCov_whole (S := S32x1) _ z2,
    h2.read_unread, h3.read_unread, h5.read_unread, h6.read_unread]

end Cert.KernelIdeal.Proof

end
-- ==== Proof.V.Blocks.lean ====
/-
  The blocks that the argmax kernel reads at each grid point, in terms of the arguments.
-/
module

public import proofs.«01_k».proof.Proof.V.Tile
public import proofs.«01_k».proof.Proof.V.Points

@[expose] public section

noncomputable section

namespace Cert.KernelIdeal.Proof

open Cert.KernelIdeal Cert.KernelIdeal.Gen Cert.Proof
open Idealize.ShloMosaic Idealize.ShloMosaic.ValueIdx
open Idealize.ShloMosaic.TcCoe Idealize.ShloMosaic.Tactic

/-- The grid has one axis: a point is its coordinate. -/
theorem coords_val : ∀ t : Fin grid0.N, (grid0.coords t 0).val = t.val := by decide +kernel

variable (m : (ℓ : Loc nD τ sig) → Buf (Elt Ideal) ℓ)

/-- Entry `k` of the embedding's row `v`. -/
def embAt (v : Fin 100000) (k : Fin 1024) : EReal := (m (((0 : Dev nD) : Thread nD τ).loc main_arg0) : S100000x1024.Idx → EReal) (ix2 v k)
/-- Entry `k` of the hidden state of sequence `b` at position `p`. -/
def hidAt (b : Fin 32) (p : Fin 8) (k : Fin 1024) : EReal := (m (((0 : Dev nD) : Thread nD τ).loc main_arg1) : S32x8x1024.Idx → EReal) (ix3 b p k)

variable (hO : Gen.Ok m)

/-- The tile of the embedding at grid point `t` starts at its row `2000 t`. -/
theorem tile_apply (t : Fin (cfgM m hO).N) (r : Fin 2000) (k : Fin 1024) (v : Fin 100000) (hv : v.val = 2000 * (grid0.coords t 0).val + r.val) :
    (iblk m hO 0 1 t : S2000x1024.Idx → EReal) (ix2 r k) = embAt m v k := by
  unfold embAt
  rw [← V_main_arg0 m 0]
  refine congrArg (V m 0 main_arg0 : S100000x1024.Idx → EReal) ?_
  funext a
  match a with
  | ⟨0, _⟩ =>
    apply Fin.ext
    have hg : (grid0.coords t 0).val < 50 := (grid0.coords t 0).isLt
    have hw : (BitVec.ofNat 32 (grid0.coords t 0).val).toNat = (grid0.coords t 0).val := by rw [BitVec.toNat_ofNat]; omega
    show (BitVec.ofNat 32 (grid0.coords t 0).val).toNat * 2000 + 1 * r.val = v.val
    rw [hw, hv]; omega
  | ⟨1, _⟩ =>
    apply Fin.ext
    show 0 * 1024 + 1 * k.val = k.val
    omega

/-- The block of the hidden states is the one at the position the table holds. -/
theorem hid_apply (p : Fin 8) (hp : ∀ x, ((m (((0 : Dev nD) : Thread nD τ).loc main_arg2) : S1.Idx → BitVec 32) x).toNat = p.val)
    (t : Fin (cfgM m hO).N) (b : Fin 32) (k : Fin 1024) :
    (iblk m hO 0 0 t : S1x32x1024.Idx → EReal) (ix3 0 b k) = hidAt m b p k := by
  have hV : (V m 0 main_v0 : S8x32x1024.Idx → EReal)
      = transpose S8x32x1024 [1, 0, 2] (m (((0 : Dev nD) : Thread nD τ).loc main_arg1) : S32x8x1024.Idx → EReal) transposes_S32x8x1024_S8x32x1024_1_0_2 := by
    show StableHlo.after (List.flatten [hostOps0]) (fun b => m ((0 : Dev nD), b)) (Proc.devRef .tc main_v0) = _
    simp only [hostOps0, List.flatten_cons, List.flatten_nil, List.append_nil]
    after_results
  have hT : (transpose S8x32x1024 [1, 0, 2] (m (((0 : Dev nD) : Thread nD τ).loc main_arg1) : S32x8x1024.Idx → EReal) transposes_S32x8x1024_S8x32x1024_1_0_2) (ix3 p b k)
      = hidAt m b p k := by
    refine transpose_apply _ _ _ _ (ix3 b p k) fun a => ?_
    match a with | ⟨0, _⟩ => rfl | ⟨1, _⟩ => rfl | ⟨2, _⟩ => rfl
  rw [← hT, ← hV]
  refine congrArg (V m 0 main_v0 : S8x32x1024.Idx → EReal) ?_
  have hb : cc0_transform_0 Facts₀.inb_S1_S1_0 Facts₀.numel1_S1 (tbl m) (grid0.coords t) 0 = p.val := by
    obtain ⟨y, hy⟩ : ∃ y, cc0_transform_0 Facts₀.inb_S1_S1_0 Facts₀.numel1_S1 (tbl m) (grid0.coords t) 0
        = ((m (((0 : Dev nD) : Thread nD τ).loc main_arg2) : S1.Idx → BitVec 32) y).toNat := by
      rw [← V_main_arg2 m 0]
      exact ⟨_, rfl⟩
    rw [hy, hp]
  funext a
  match a with
  | ⟨0, _⟩ =>
    apply Fin.ext
    show cc0_transform_0 Facts₀.inb_S1_S1_0 Facts₀.numel1_S1 (tbl m) (grid0.coords t) 0 * 1 + 1 * 0 = p.val
    rw [hb]; omega
  | ⟨1, _⟩ =>
    apply Fin.ext
    show 0 * 32 + 1 * b.val = b.val
    omega
  | ⟨2, _⟩ =>
    apply Fin.ext
    show 0 * 1024 + 1 * k.val = k.val
    omega

end Cert.KernelIdeal.Proof

end
-- ==== Proof.V.Result.lean ====
/-
  The idealized kernel's result: for every sequence, the first position of its greatest logit.
-/
module

public import proofs.«01_k».proof.Proof.V.Blocks
public import proofs.«01_k».proof.Proof.K.Position
public import Idealize.ShloMosaic.Lib.Pipeline.ValueKit.Geometry

@[expose] public section

noncomputable section

namespace Cert.KernelIdeal.Proof

open Cert.KernelIdeal Cert.KernelIdeal.Gen Cert.Proof
open Idealize.ShloMosaic Idealize.ShloMosaic.ValueIdx
open Idealize.ShloMosaic.TcCoe Idealize.ShloMosaic.Tactic Idealize.SL.Sem

/-- The logit of sequence `b` for vocabulary entry `v`, over real hidden states `H` and a real embedding `E`. -/
def logit (H : Fin 32 → Fin 1024 → ℝ) (E : Fin 100000 → Fin 1024 → ℝ) (b : Fin 32) (v : ℕ) : ℝ :=
  if h : v < 100000 then ∑ k : Fin 1024, H b k * E ⟨v, h⟩ k else 0

theorem logit_of_lt (H : Fin 32 → Fin 1024 → ℝ) (E : Fin 100000 → Fin 1024 → ℝ) (b : Fin 32) (v : Fin 100000) :
    logit H E b v.val = ∑ k : Fin 1024, H b k * E v k := by
  unfold logit; rw [dif_pos v.isLt]

/-- A sum of reals, in the extended reals. -/
theorem coe_sum {ι : Type} [DecidableEq ι] (S : Finset ι) (g : ι → ℝ) : ((∑ k ∈ S, g k : ℝ) : EReal) = ∑ k ∈ S, (g k : EReal) := by
  induction S using Finset.induction_on with
  | empty => simp
  | insert a S ha ih => rw [Finset.sum_insert ha, Finset.sum_insert ha, EReal.coe_add, ih]

variable (m : (ℓ : Loc nD τ sig) → Buf (Elt Ideal) ℓ) (hO : Ok m) (p : Fin 8)
  (H : Fin 32 → Fin 1024 → ℝ) (E : Fin 100000 → Fin 1024 → ℝ)

/-- What is assumed of the memory: the position is `p`, and the two arrays hold the reals `H` and `E`. -/
structure Reads : Prop where
  pos : ∀ x, ((m (((0 : Dev nD) : Thread nD τ).loc main_arg2) : S1.Idx → BitVec 32) x).toNat = p.val
  hid : ∀ b k, hidAt m b p k = (H b k : EReal)
  emb : ∀ v k, embAt m v k = (E v k : EReal)

variable {m p H E}

/-- A tile's logits at grid point `t`. -/
theorem tile_logits (h : Reads m p H E) (t : Fin (cfgM m hO).N) (b : Fin 32) (r : Fin 2000) :
    k0_pay3 (F := Ideal) (iblk m hO 0 0 t) (iblk m hO 0 1 t) (ix2 b r) = (logit H E b (2000 * (grid0.coords t 0).val + r.val) : EReal) := by
  have hg : (grid0.coords t 0).val < 50 := (grid0.coords t 0).isLt
  have hv : 2000 * (grid0.coords t 0).val + r.val < 100000 := by have := r.isLt; omega
  refine (logits_apply (iblk m hO 0 0 t) (iblk m hO 0 1 t) b r).trans ?_
  rw [logit_of_lt H E b ⟨_, hv⟩, coe_sum]
  refine Finset.sum_congr rfl fun k _ => ?_
  rw [EReal.coe_mul, ← h.hid, ← h.emb]
  exact congrArg₂ (· * ·) (hid_apply m hO p h.pos t b k) (tile_apply m hO t r k ⟨_, hv⟩ rfl)

/-- What the scratch holds after the first grid point, -/
theorem at_first (t : Fin (cfgM m hO).N) (h0 : t.val % 50 = 0) (h1 : ¬t.val % 50 = 49) :
    (outsAt0 m hO 0 t.val t.isLt).2.1 = k0_pay6 (F := Ideal) (iblk m hO 0 0 t) (iblk m hO 0 1 t) (k0_pay1 (F := Ideal)) (k0_pay1 (F := Ideal))
      ∧ (outsAt0 m hO 0 t.val t.isLt).2.2 = k0_pay7 (F := Ideal) (grid0.coords t) (iblk m hO 0 0 t) (iblk m hO 0 1 t) (k0_pay1 (F := Ideal)) k0_pay2 := by
  rw [outsAt0_A m hO 0 t h0 h1]
  exact ⟨first_val (F := Ideal) 0 (grid0.coords t) (ms0_0 m hO t) (hs0_0 m hO t) (ms0_1 m hO t) (hs0_1 m hO t) (ms0_2 m hO t) (hs0_2 m hO t) scM0_0 (Memref.isWhole_whole _) scM0_1 (Memref.isWhole_whole _) (iblk m hO 0 0 t) (iblk m hO 0 1 t) (tbl m 0) ((hcond0_0 t).mpr h0) (fun h => h1 ((hcond0_1 t).mp h)), first_idx (F := Ideal) 0 (grid0.coords t) (ms0_0 m hO t) (hs0_0 m hO t) (ms0_1 m hO t) (hs0_1 m hO t) (ms0_2 m hO t) (hs0_2 m hO t) scM0_0 (Memref.isWhole_whole _) scM0_1 (Memref.isWhole_whole _) (iblk m hO 0 0 t) (iblk m hO 0 1 t) (tbl m 0) ((hcond0_0 t).mpr h0) (fun h => h1 ((hcond0_1 t).mp h))⟩

/-- after a middle one, over what the point before left, -/
theorem at_mid (t : Fin (cfgM m hO).N) (h0 : ¬t.val % 50 = 0) (h1 : ¬t.val % 50 = 49) (n : ℕ) (hn : n < (cfgM m hO).N) (ht : n = t.val - 1) :
    (outsAt0 m hO 0 t.val t.isLt).2.1 = k0_pay6 (F := Ideal) (iblk m hO 0 0 t) (iblk m hO 0 1 t) (outsAt0 m hO 0 n hn).2.1 (outsAt0 m hO 0 n hn).2.1
      ∧ (outsAt0 m hO 0 t.val t.isLt).2.2
        = k0_pay7 (F := Ideal) (grid0.coords t) (iblk m hO 0 0 t) (iblk m hO 0 1 t) (outsAt0 m hO 0 n hn).2.1 (outsAt0 m hO 0 n hn).2.2 := by
  subst ht
  rw [outsAt0_B m hO 0 t h0 h1]
  exact ⟨mid_val (F := Ideal) 0 (grid0.coords t) (ms0_0 m hO t) (hs0_0 m hO t) (ms0_1 m hO t) (hs0_1 m hO t) (ms0_2 m hO t) (hs0_2 m hO t) scM0_0 (Memref.isWhole_whole _) scM0_1 (Memref.isWhole_whole _) (iblk m hO 0 0 t) (iblk m hO 0 1 t) (tbl m 0) (outsAt0 m hO 0 (t.val - 1) hn).2.1 (outsAt0 m hO 0 (t.val - 1) hn).2.2 (fun h => h0 ((hcond0_0 t).mp h)) (fun h => h1 ((hcond0_1 t).mp h)), mid_idx (F := Ideal) 0 (grid0.coords t) (ms0_0 m hO t) (hs0_0 m hO t) (ms0_1 m hO t) (hs0_1 m hO t) (ms0_2 m hO t) (hs0_2 m hO t) scM0_0 (Memref.isWhole_whole _) scM0_1 (Memref.isWhole_whole _) (iblk m hO 0 0 t) (iblk m hO 0 1 t) (tbl m 0) (outsAt0 m hO 0 (t.val - 1) hn).2.1 (outsAt0 m hO 0 (t.val - 1) hn).2.2 (fun h => h0 ((hcond0_0 t).mp h)) (fun h => h1 ((hcond0_1 t).mp h))⟩

/-- and what the last one stores into the result's block. -/
theorem at_last (t : Fin (cfgM m hO).N) (h0 : ¬t.val % 50 = 0) (h1 : t.val % 50 = 49) (n : ℕ) (hn : n < (cfgM m hO).N) (ht : n = t.val - 1) :
    (outsAt0 m hO 0 t.val t.isLt).1
        = k0_pay7 (F := Ideal) (grid0.coords t) (iblk m hO 0 0 t) (iblk m hO 0 1 t) (outsAt0 m hO 0 n hn).2.1 (outsAt0 m hO 0 n hn).2.2 := by
  subst ht
  rw [outsAt0_C m hO 0 t h0 h1]
  exact last_out (F := Ideal) 0 (grid0.coords t) (ms0_0 m hO t) (hs0_0 m hO t) (ms0_1 m hO t) (hs0_1 m hO t) (ms0_2 m hO t) (hs0_2 m hO t) scM0_0 (Memref.isWhole_whole _) scM0_1 (Memref.isWhole_whole _) (iblk m hO 0 0 t) (iblk m hO 0 1 t) (tbl m 0) (outsAt0 m hO 0 (t.val - 1) hn).2.1 (outsAt0 m hO 0 (t.val - 1) hn).2.2 (fun h => h0 ((hcond0_0 t).mp h)) ((hcond0_1 t).mpr h1)

/-- After each grid point but the last, the scratch holds the best of the entries read so far. -/
theorem scratch_best (h : Reads m p H E) (b : Fin 32) : ∀ (n : ℕ) (hn : n < (cfgM m hO).N), n % 50 ≠ 49 →
    Best (logit H E b) (2000 * n + 2000) b (outsAt0 m hO 0 n hn).2.1 (outsAt0 m hO 0 n hn).2.2 := by
  intro n
  induction n with
  | zero =>
    intro hn h49
    have h0 : (⟨0, hn⟩ : Fin (cfgM m hO).N).val % 50 = 0 := Nat.zero_mod _
    obtain ⟨e1, e2⟩ := at_first hO ⟨0, hn⟩ h0 h49
    have hc : (grid0.coords ⟨0, hn⟩ 0).val = 0 := coords_val ⟨0, hn⟩
    have hs := best_first (b := b) (logit H E b) (grid0.coords ⟨0, hn⟩) hc (fun k => tile_logits hO h ⟨0, hn⟩ b k)
    rw [hc] at hs
    show Best _ _ _ (outsAt0 m hO 0 (⟨0, hn⟩ : Fin (cfgM m hO).N).val hn).2.1 (outsAt0 m hO 0 (⟨0, hn⟩ : Fin (cfgM m hO).N).val hn).2.2
    rw [e1, e2]
    exact hs
  | succ n ih =>
    intro hn h49
    have hN : n + 1 < 50 := lt_of_lt_of_eq hn (show (cfgM m hO).N = 50 from N_0)
    have hn' : n < (cfgM m hO).N := Nat.lt_of_succ_lt hn
    have hb := ih hn' (by omega)
    have h0 : ¬ (⟨n + 1, hn⟩ : Fin (cfgM m hO).N).val % 50 = 0 := by show ¬ (n + 1) % 50 = 0; omega
    obtain ⟨e1, e2⟩ := at_mid hO ⟨n + 1, hn⟩ h0 h49 n hn' rfl
    have hc : (grid0.coords ⟨n + 1, hn⟩ 0).val = n + 1 := coords_val ⟨n + 1, hn⟩
    have hs := best_step (b := b) (logit H E b) (grid0.coords ⟨n + 1, hn⟩) (outsAt0 m hO 0 n hn').2.1 (outsAt0 m hO 0 n hn').2.2
      (fun k => tile_logits hO h ⟨n + 1, hn⟩ b k) (by rw [hc]; exact hb)
    rw [hc] at hs
    show Best _ _ _ (outsAt0 m hO 0 (⟨n + 1, hn⟩ : Fin (cfgM m hO).N).val hn).2.1 (outsAt0 m hO 0 (⟨n + 1, hn⟩ : Fin (cfgM m hO).N).val hn).2.2
    rw [e1, e2]
    exact hs

/-- The last grid point. -/
def lastPt : Fin (cfgM m hO).N := ⟨49, by show 49 < grid0.N; rw [N_0]; omega⟩

/-- At the last grid point the result's block receives the first greatest position of every row. -/
theorem last_best (h : Reads m p H E) (b : Fin 32) :
    ∃ v, First (logit H E b) 100000 v ∧ (outsAt0 m hO 0 (lastPt hO).val (lastPt hO).isLt).1 (ix2 b 0) = BitVec.ofNat 32 v := by
  have hN : 48 < (cfgM m hO).N := by show 48 < grid0.N; rw [N_0]; omega
  have hb := scratch_best hO h b 48 hN (by decide)
  have e1 := at_last hO (lastPt hO) (by show ¬ 49 % 50 = 0; decide) (by show 49 % 50 = 49; decide) 48 hN rfl
  have hc : (grid0.coords (lastPt hO) 0).val = 49 := coords_val (lastPt hO)
  obtain ⟨v, hv, -, hi⟩ := best_step (b := b) (logit H E b) (grid0.coords (lastPt hO)) (outsAt0 m hO 0 48 hN).2.1 (outsAt0 m hO 0 48 hN).2.2
    (fun k => tile_logits hO h (lastPt hO) b k) (by rw [hc]; exact hb)
  rw [hc] at hv
  refine ⟨v, hv, ?_⟩
  rw [e1]
  exact hi

/-- The result's array is written back once, at the last point, whole. -/
theorem flush_only : ∀ t : Fin grid0.N, t.val ≠ 49 → t.val + 1 ≠ grid0.N := by decide +kernel
theorem noFlush (t : Fin (cfgM m hO).N) (h : t.val ≠ 49) : ((cfgM m hO).win 2).flush t = false := by
  have hN : ¬ t.val + 1 = grid0.N := flush_only t h
  unfold Pipeline.Window.flush
  rw [Bool.and_eq_false_iff]; right
  rw [Bool.or_eq_false_iff]
  exact ⟨decide_eq_false hN, decide_eq_false fun ⟨_, hx⟩ => hx rfl⟩
theorem whole : ((cfgM m hO).win 2).WholeAt (lastPt hO) := by
  refine ⟨?_, fun t hf => ?_, fun k => ⟨?_, rfl⟩⟩
  · unfold Pipeline.Window.flush
    rw [Bool.and_eq_true]
    refine ⟨rfl, ?_⟩
    rw [Bool.or_eq_true]; left
    exact decide_eq_true (show 49 + 1 = grid0.N by rw [N_0])
  · apply Fin.ext
    by_contra h
    rw [noFlush hO t h] at hf
    exact Bool.false_ne_true hf
  · revert k; show ∀ k : Fin 2, (![0, 0] : Fin 2 → ℕ) k = 0; decide
theorem array_last : (dats m hO 0 0).arrAt 2 (cfgM m hO).N = (outsAt0 m hO 0 (lastPt hO).val (lastPt hO).isLt).1 :=
  (dats m hO 0 0).arrAt_eq_of_after_last 2 (lastPt hO) (whole hO) _ fun j => congrFun (after0_2 m hO 0 (lastPt hO)) j

/-- The result array after the last host line: the output array, reshaped. -/
theorem tail_result : (Pipeline.afterTail pcfgs (fun _ => adm m hO) (dats m hO) 0 (V0 m) [hostOps1] 0 main_v2 : S32.Idx → BitVec 32)
    = shapeCast S32 ((dats m hO 0 0).arrAt 2 (cfgM m hO).N : S32x1.Idx → BitVec 32) shapeCasts_S32x1_S32 := by
  have hA := Pipeline.withArrays_arr spec0 (by decide) (0 : Dev nD) (V0 m 0) (fun w => (dats m hO 0 0).arrAt w (cfgM m hO).N) 2
  unfold Pipeline.afterTail
  simp only [hostOps1, List.flatten_cons, List.flatten_nil, List.append_nil]
  refine Eq.trans ?_ (congrArg (fun x : S32x1.Idx → BitVec 32 => shapeCast S32 x shapeCasts_S32x1_S32) hA)
  after_results
  rfl

include hO in
/-- The idealized kernel runs, and its result holds at every sequence the first position of its greatest logit. -/
theorem kernel_run (ρ : Dev nD → PrngReg) (h : Reads m p H E) (w : S32.Idx → BitVec 32)
    (hw : ∀ (b : Fin 32) (v : ℕ), First (logit H E b) 100000 v → w (ix1 b) = BitVec.ofNat 32 v) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v2) = w) := by
  refine θ_run_mono (run_main_quiescent m ρ hO) fun r hr c => ?_
  obtain rfl : c = 0 := Subsingleton.elim _ _
  have h2 := (hr.1 0).2 main_v2 (show main_v2 ∈ Pipeline.restRefs sig spec0 by decide)
  refine h2.trans ((tail_result hO).trans ?_)
  funext j
  obtain ⟨b, rfl⟩ : ∃ b : Fin 32, j = ix1 b := ⟨j 0, by funext a; match a with | ⟨0, _⟩ => rfl⟩
  obtain ⟨v, hv, hl⟩ := last_best hO h b
  rw [hw b v hv, ← hl, array_last]
  exact shapeCast_apply _ _ _ (ix2 b 0) (by
    rw [Shape.rowMajor_val_two, Shape.rowMajor_val_one]
    show b.val * 1 + 0 = b.val
    omega)

end Cert.KernelIdeal.Proof

end
-- ==== Proof.V.Inputs.lean ====
/-
  What the inputs' precondition says: the position is in range, the arrays hold real numbers, the temperatures are positive,
  the probability limits are not negative, and one token is allowed.
-/
module

public import proofs.«01_k».proof.Defs
public import proofs.«01_k».proof.Proof.K.Position
public import proofs.«01_k».proof.Proof.V.Result
public import Idealize.ShloMosaic.Lib.ReduceAll
public import Idealize.ShloMosaic.Lib.Decide

@[expose] public section

/-- The side conditions of the precondition's operations. -/
instance Cert.Pre_inputs_ok.Proof.facts : Cert.Pre_inputs_ok.Facts where
  bcast_S_S1 := by decide
  reducesTo_S1_S_d0 := by decide
  h_S_ := by decide
  bcast_S_S100000x1024 := by decide
  reducesTo_S100000x1024_S_d0_1 := by decide
  bcast_S_S32x8x1024 := by decide
  reducesTo_S32x8x1024_S_d0_1_2 := by decide
  bcast_S_S32 := by decide
  reducesTo_S32_S_d0 := by decide

namespace Cert.Proof

open Idealize.ShloMosaic Idealize.ShloMosaic.TcCoe Idealize.ShloMosaic.ValueIdx
open Cert.Pre_inputs_ok (S100000x1024 S32x8x1024 S1 S32 S_)

/-- An extended real whose absolute value is below infinity is a real. -/
theorem real_of_abs (x : EReal) (h : Ideal.cmp .olt (max x (-x)) (Ideal.ofBits .f32 0x7F800000#32) = 1#1) : ∃ r : ℝ, x = (r : EReal) := by
  have hi : Ideal.ofBits .f32 0x7F800000#32 = (⊤ : EReal) := by simp [Ideal.ofBits, Ideal.ieee]
  rw [hi] at h
  induction x using EReal.rec with
  | bot => simp [Ideal.cmp] at h
  | top => simp [Ideal.cmp] at h
  | coe r => exact ⟨r, rfl⟩

/-- An extended real between zero and infinity is a positive real. -/
theorem real_of_pos (x : EReal) (h : IntOp.andi (Ideal.cmp .ogt x (Ideal.ofBits .f32 0x00000000#32)) (Ideal.cmp .olt x (Ideal.ofBits .f32 0x7F800000#32)) = 1#1) :
    ∃ r : ℝ, 0 < r ∧ x = (r : EReal) := by
  have hi : Ideal.ofBits .f32 0x7F800000#32 = (⊤ : EReal) := by simp [Ideal.ofBits, Ideal.ieee]
  have hz : Ideal.ofBits .f32 0x00000000#32 = (0 : EReal) := Ideal.ofBits_zero_f32
  obtain ⟨h1, h2⟩ := IntOp.andi_eq_one.1 h
  rw [hz] at h1
  rw [hi] at h2
  induction x using EReal.rec with
  | bot => simp [Ideal.cmp] at h1
  | top => simp [Ideal.cmp] at h2
  | coe r =>
    refine ⟨r, ?_, rfl⟩
    by_contra hn
    have : ¬ (0 : EReal) < (r : EReal) := fun h' => hn (EReal.coe_pos.mp h')
    simp [Ideal.cmp, hn] at h1

/-- An extended real that compares at least zero is. -/
theorem nonneg_of (x : EReal) (h : Ideal.cmp .oge x (Ideal.ofBits .f32 0x00000000#32) = 1#1) : 0 ≤ x := by
  have hz : Ideal.ofBits .f32 0x00000000#32 = (0 : EReal) := Ideal.ofBits_zero_f32
  rw [hz] at h
  by_contra hn
  simp [Ideal.cmp, hn] at h

/-- A word that compares equal to one is one. -/
theorem one_of (x : BitVec 32) (h : IntOp.cmpi .eq x 1#32 = 1#1) : x = 1#32 := by
  have hb : (x == 1#32) = true := by
    revert h
    show BitVec.ofBool (x == 1#32) = 1#1 → _
    cases x == 1#32 <;> simp
  exact eq_of_beq hb

/-- The precondition, read at every entry of its arrays. -/
theorem fn_reads (a0 : FVec Ideal S100000x1024 .f32) (a1 : FVec Ideal S32x8x1024 .f32) (a2 : IVec S1 32) (a3 a4 : FVec Ideal S32 .f32) (a5 : IVec S32 32)
    (h : Cert.Pre_inputs_ok.fn (F := Ideal) a0 a1 a2 a3 a4 a5 = fun _ => 1#1) :
    (∀ j, ∃ r : ℝ, a0 j = (r : EReal)) ∧ (∀ j, ∃ r : ℝ, a1 j = (r : EReal)) ∧ (∀ j, (a2 j).toNat < 8)
      ∧ (∀ j, ∃ r : ℝ, 0 < r ∧ a3 j = (r : EReal)) ∧ (∀ j, (0 : EReal) ≤ a4 j) ∧ ∀ j, a5 j = 1#32 := by
  have hsub : Subsingleton S_.Idx := ⟨fun x y => funext fun k => k.elim0⟩
  have h0 := congrFun h (Shape.Idx.first Cert.Pre_inputs_ok.Facts.h_S_)
  unfold Cert.Pre_inputs_ok.fn Cert.Pre_inputs_ok.fn_part1 at h0
  obtain ⟨h0, e5⟩ := IntOp.andi_eq_one.1 h0
  obtain ⟨h0, e4⟩ := IntOp.andi_eq_one.1 h0
  obtain ⟨h0, e3⟩ := IntOp.andi_eq_one.1 h0
  obtain ⟨h0, e1⟩ := IntOp.andi_eq_one.1 h0
  obtain ⟨e2, e0⟩ := IntOp.andi_eq_one.1 h0
  exact ⟨fun j => real_of_abs _ (Host.reduce_andi_all _ _ _ _ _ e0 j), fun j => real_of_abs _ (Host.reduce_andi_all _ _ _ _ _ e1 j),
    fun j => word_lt _ (Host.reduce_andi_all _ _ _ _ _ e2 j), fun j => real_of_pos _ (Host.reduce_andi_all _ _ _ _ _ e3 j),
    fun j => nonneg_of _ (Host.reduce_andi_all _ _ _ _ _ e4 j), fun j => one_of _ (Host.reduce_andi_all _ _ _ _ _ e5 j)⟩

end Cert.Proof
-- ==== Proof.R.Ops.lean ====
module

public import proofs.«01_k».proof.Defs
public import Idealize.ShloMosaic.Lib.Claim
public import Idealize.ShloMosaic.Lib.StableHlo.RunRead
public import proofs.«01_k».proof.Proof.Gen.ReferenceIdeal
public import Idealize.ShloMosaic.Lib.StableHlo.RunHlo

@[expose] public section

namespace Cert.ReferenceIdeal.Proof

open Idealize Idealize.ShloMosaic Idealize.ShloMosaic.StableHlo Idealize.SL.Sem

set_option maxHeartbeats 4000000 in
set_option maxRecDepth 100000 in
/-- The operations of the reference program in the order they run, with the fact that the program is exactly that
    sequence on every device. -/
noncomputable def refOps : {l : List (HloOp τ sig (Elt Ideal)) // ∀ d, IsSeq (main (F := Ideal) d) l} := by
  constructor
  hlo_seq

end Cert.ReferenceIdeal.Proof
-- ==== Proof.R.Stages.lean ====
/-
  What the reference leaves in its buffers, one stage at a time: each theorem states a buffer after the whole program as a
  function of buffers written before it.
-/
module

public import proofs.«01_k».proof.Proof.R.Ops
public import Idealize.ShloMosaic.Lib.Tactic.CleanTypes

@[expose] public section

namespace Cert.ReferenceIdeal.Proof

open Cert.ReferenceIdeal Cert.ReferenceIdeal.Gen
open Idealize.ShloMosaic Idealize.ShloMosaic.StableHlo Idealize.ShloMosaic.TcCoe Idealize.SL.Sem

/-- An array of extended reals of the given shape. -/
abbrev Reals (S : Shape) := FVec Ideal S .f32

/-- An array of 32-bit words of the given shape. -/
abbrev Words (S : Shape) := IVec S 32

/-- An array of single bits of the given shape. -/
abbrev Bits (S : Shape) := IVec S 1

/-- The position with a negative value counted from the end. -/
noncomputable def wrapPos (i : Words S1) : Words S1 :=
  select (cmpi .slt i (broadcastInDim S1 ![] bcast_S_S1 (constantI S_ 32 0#32)))
    (addi i (broadcastInDim S1 ![] bcast_S_S1 (constantI S_ 32 8#32))) i

/-- Whether the position lies in the hidden states' range. -/
noncomputable def posInside (i : Words S1x1) : Bits S1 :=
  Host.reduce IntOp.andi
    (andi (cmpi .sge i (broadcastInDim S1x1 ![] bcast_S_S1x1 (constantI S_ 32 0#32)))
      (cmpi .sle i (broadcastInDim S1x1 ![1] bcast_S1_S1x1_1 (constantI S1 32 7#32))))
    (constantI S_ 1 1#1) reducesTo_S1x1_S1_d1 h_S_

/-- The hidden states at the given position. -/
noncomputable def takeVal (x : Reals S32x8x1024) (i : Words S1) : Reals S32x1x1024 :=
  select (broadcastInDim S32x1x1024 ![1] bcast_S1_S32x1x1024_1 (posInside (broadcastInDim S1x1 ![0] bcast_S1_S1x1_0 (wrapPos i))))
    (Host.gather gather_S32x8x1024_S1x1_S32x1x1024_02_1_n_n_1_1_3211024 x (broadcastInDim S1x1 ![0] bcast_S1_S1x1_0 (wrapPos i)))
    (broadcastInDim S32x1x1024 ![] bcast_S_S32x1x1024 (constant S_ .f32 0x7FC00000#32))

/-- A column of 32 values repeated along the vocabulary. -/
noncomputable def cols (x : Reals S32) : Reals S32x100000 :=
  broadcastInDim S32x100000 ![0, 1] bcast_S32x1_S32x100000_0_1 (broadcastInDim S32x1 ![0] bcast_S32_S32x1_0 x)

/-- A column of 32 words repeated along the vocabulary. -/
noncomputable def colsI (x : Words S32) : Words S32x100000 :=
  broadcastInDim S32x100000 ![0, 1] bcast_S32x1_S32x100000_0_1 (broadcastInDim S32x1 ![0] bcast_S32_S32x1_0 x)

/-- The logits divided by the temperatures. -/
noncomputable def scaledVal (x : Reals S32x1x1024) (e : Reals S100000x1024) (t : Reals S32) : Reals S32x100000 :=
  Host.divf
    (Host.dotGeneral dot_S32x1024_S1024x100000_S32x100000_1_0_0_1_n_n none (shapeCast S32x1024 x shapeCasts_S32x1x1024_S32x1024)
      (transpose S1024x100000 [1, 0] e transposes_S100000x1024_S1024x100000_1_0)) (cols t)

/-- The greatest value of each row. -/
noncomputable def rowMax (x : Reals S32x100000) : Reals S32 :=
  Host.reduce FloatOps.maximumf x (constant S_ .f32 0xFF800000#32) reducesTo_S32x100000_S32_d1 h_S_

/-- The sum of each row. -/
noncomputable def rowSum (x : Reals S32x100000) : Reals S32 :=
  Host.reduceAdd x (constant S_ .f32 0x00000000#32) reducesTo_S32x100000_S32_d1 h_S_

/-- The exponentials of the logits less their row's greatest. -/
noncomputable def expVal (x : Reals S32x100000) : Reals S32x100000 :=
  Host.exp (subf x (cols (maximumf (broadcastInDim S32 ![] bcast_S_S32 (constant S_ .f32 0xFF800000#32)) (rowMax x))))

/-- Each row divided by its sum. -/
noncomputable def normVal (x : Reals S32x100000) : Reals S32x100000 := Host.divf x (cols (rowSum x))

/-- The indices that sort each row of reals. -/
noncomputable def sortReals (x : Reals S32x100000) : Words S32x100000 :=
  (Host.sort2 S32x100000 1 comparator_f32_i32_d1 x (iotaInDim S32x100000 32 1)).2

/-- The indices that sort each row of words. -/
noncomputable def sortWords (x : Words S32x100000) : Words S32x100000 :=
  (Host.sort2 S32x100000 1 comparator_i32_i32_d1 x (iotaInDim S32x100000 32 1)).2

/-- The indices with negative ones counted from the end, one to a cell. -/
noncomputable def wrapIdx (i : Words S32x100000) : Words S32x100000x1 :=
  shapeCast S32x100000x1 (select (cmpi .slt i (broadcastInDim S32x100000 ![] bcast_S_S32x100000 (constantI S_ 32 0#32)))
    (addi i (broadcastInDim S32x100000 ![] bcast_S_S32x100000 (constantI S_ 32 100000#32))) i) shapeCasts_S32x100000_S32x100000x1

/-- Which indices lie in the vocabulary's range. -/
noncomputable def idxInside (i : Words S32x100000x1) : Bits S32x100000 :=
  Host.reduce IntOp.andi
    (andi (cmpi .sge i (broadcastInDim S32x100000x1 ![] bcast_S_S32x100000x1 (constantI S_ 32 0#32)))
      (cmpi .sle i (broadcastInDim S32x100000x1 ![0, 1, 2] bcast_S1x1x1_S32x100000x1_0_1_2
        (broadcastInDim S1x1x1 ![2] bcast_S1_S1x1x1_2 (constantI S1 32 99999#32)))))
    (constantI S_ 1 1#1) reducesTo_S32x100000x1_S32x100000_d2 h_S_

/-- Each row read at the given indices. -/
noncomputable def alongVal (x : Reals S32x100000) (i : Words S32x100000) : Reals S32x100000 :=
  select (idxInside (wrapIdx i))
    (Host.gather gather_S32x100000_S32x100000x1_S32x100000_n_1_0_0_1_2_11 x (wrapIdx i))
    (broadcastInDim S32x100000 ![] bcast_S_S32x100000 (constant S_ .f32 0x7FC00000#32))

/-- The running sums of each row. -/
noncomputable def sumsVal (x : Reals S32x100000) : Reals S32x100000 :=
  Host.reduceWindowAdd ![1, 100000] ![1, 1] ![0, 99999] ![0, 0] x
    (broadcastInDim S_ ![] bcast_S_S_ (constant S_ .f32 0x00000000#32))
    reduceWindows_S32x100000_S32x100000_w1s1p0_0_w100000s1p99999_0 h_S_

/-- Zero where the bit is set, the given value elsewhere. -/
noncomputable def clearVal (b : Bits S32x100000) (x : Reals S32x100000) : Reals S32x100000 :=
  select b (broadcastInDim S32x100000 ![] bcast_S_S32x100000 (id (constant S_ .f32 0x00000000#32))) x

/-- The rank of each cell in its row. -/
noncomputable def ranks : Words S32x100000 :=
  broadcastInDim S32x100000 ![0, 1] bcast_S1x100000_S32x100000_0_1
    (broadcastInDim S1x100000 ![1] bcast_S100000_S1x100000_1 (iotaInDim S100000 32 0))

/-- The sorted probabilities kept by the two limits. -/
noncomputable def keptVal (sums x : Reals S32x100000) (p : Reals S32) (k : Words S32) : Reals S32x100000 :=
  clearVal (cmpi .sge ranks (colsI k)) (clearVal (cmpf .ogt (subf sums x) (cols p)) x)

/-- The noise made from numbers of the unit interval. -/
noncomputable def noiseVal (u : Reals S32x100000) : Reals S32x100000 :=
  Host.negf (Host.log (Host.negf (Host.log u)))

/-- The indices an arg-reduction leaves. -/
@[irreducible] noncomputable def argPlace {s t u : Shape} {axes : List (Fin s.rank)} (f : Ideal .f32 × BitVec 32 → Ideal .f32 × BitVec 32 → Ideal .f32 × BitVec 32)
    (x : Reals s) (y : Words s) (ix : Reals u) (iy : Words u) (h : s.ReducesTo axes t) (hu : 0 < u.numel) : Words t :=
  fun j => (Host.argReduce f x y ix iy h hu j).2

/-- The place of each row's greatest value. -/
noncomputable def argmaxVal (x : Reals S32x100000) : Words S32 :=
  argPlace reducer_argmax_f32_i32 x (iotaInDim S32x100000 32 1) (constant S_ .f32 0xFF800000#32) (constantI S_ 32 0#32)
    reducesTo_S32x100000_S32_d1 h_S_

variable (V : Valuation τ sig (Elt Ideal))

/-- The buffers after the whole program are those after its operations from any place on, run from the buffers before. -/
theorem split (n : Nat) : after refOps.1 V = after (refOps.1.drop n) (upto refOps.1 V n) := by
  have h : ∀ (l₁ l₂ : List (HloOp τ sig (Elt Ideal))) (V : Valuation τ sig (Elt Ideal)),
      after (l₁ ++ l₂) V = after l₂ (after l₁ V) := by
    intro l₁
    induction l₁ with
    | nil => exact fun _ _ => rfl
    | cons op l ih => exact fun l₂ V => ih l₂ _
  rw [upto, ← h, List.take_append_drop]

/-- What a buffer holds after the whole program. -/
noncomputable abbrev fin (b : Ref sig .tc) : (Proc.devRef (τ := τ) .tc b).ty.Contents (Elt Ideal) := after refOps.1 V b

theorem read_take : fin V main_v0 = takeVal (fin V main_arg1) (fin V main_arg2) := by
  after_reads_simp
  simp -implicitDefEqProofs only [TRef.ofBuf, TRef.toBuf, cast_cast, cast_eq]
  clean_types
  unfold takeVal posInside wrapPos
  rfl

theorem read_scaled : fin V main_v6 = scaledVal (fin V main_v0) (fin V main_arg0) (fin V main_arg3) := by
  unfold fin; rw [split V 22]; generalize upto refOps.1 V 22 = W
  after_reads_simp
  clean_types
  unfold scaledVal cols
  rfl

theorem read_probs : fin V main_v17 = normVal (expVal (fin V main_v6)) := by
  unfold fin; rw [split V 28]; generalize upto refOps.1 V 28 = W
  after_reads_simp
  clean_types
  unfold normVal expVal rowMax rowSum cols
  rfl

theorem read_order : fin V main_v19 = sortReals (Host.negf (F := Ideal) (φ := .f32) (fin V main_v17)) := by
  unfold fin; rw [split V 42]; generalize upto refOps.1 V 42 = W
  after_reads_simp
  simp -implicitDefEqProofs only [TRef.ofBuf, TRef.toBuf, cast_cast, cast_eq]
  clean_types
  unfold sortReals
  rfl

theorem read_sorted : fin V main_v20 = alongVal (fin V main_v17) (fin V main_v19) := by
  unfold fin; rw [split V 46]; generalize upto refOps.1 V 46 = W
  after_reads_simp
  simp -implicitDefEqProofs only [TRef.ofBuf, TRef.toBuf, cast_cast, cast_eq]
  clean_types
  unfold alongVal idxInside wrapIdx
  rfl

theorem read_sums : fin V main_v21 = sumsVal (fin V main_v20) := by
  unfold fin; rw [split V 68]; generalize upto refOps.1 V 68 = W
  after_reads_simp
  simp -implicitDefEqProofs only [TRef.ofBuf, TRef.toBuf, cast_cast, cast_eq]
  clean_types
  unfold sumsVal
  rfl

theorem read_kept : fin V main_v33 = keptVal (fin V main_v21) (fin V main_v20) (fin V main_arg4) (fin V main_arg5) := by
  unfold fin; rw [split V 71]; generalize upto refOps.1 V 71 = W
  after_reads_simp
  simp -implicitDefEqProofs only [TRef.ofBuf, TRef.toBuf, cast_cast, cast_eq]
  clean_types
  unfold keptVal clearVal ranks cols colsI
  rfl

theorem read_norm : fin V main_v37 = normVal (fin V main_v33) := by
  unfold fin; rw [split V 89]; generalize upto refOps.1 V 89 = W
  after_reads_simp
  clean_types
  unfold normVal rowSum cols
  rfl

theorem read_inverse : fin V main_v38 = sortWords (fin V main_v19) := by
  unfold fin; rw [split V 94]; generalize upto refOps.1 V 94 = W
  after_reads_simp
  simp -implicitDefEqProofs only [TRef.ofBuf, TRef.toBuf, cast_cast, cast_eq]
  clean_types
  unfold sortWords
  rfl

theorem read_restored : fin V main_v39 = alongVal (fin V main_v37) (fin V main_v38) := by
  unfold fin; rw [split V 97]; generalize upto refOps.1 V 97 = W
  after_reads_simp
  simp -implicitDefEqProofs only [TRef.ofBuf, TRef.toBuf, cast_cast, cast_eq]
  clean_types
  unfold alongVal idxInside wrapIdx
  rfl

theorem read_logs : fin V main_v47 = Host.log (F := Ideal) (φ := .f32) (fin V main_v39) := by
  unfold fin; rw [split V 129]; generalize upto refOps.1 V 129 = W
  after_reads_simp

/-- The numbers of the unit interval are at least the smallest positive normal number. -/
theorem read_unit : fin V main_call8_v0 =
    maximumf (F := Ideal) (φ := .f32) (broadcastInDim S32x100000 ![0, 1] bcast_S1x1_S32x100000_0_1
      (broadcastInDim S1x1 ![] bcast_S_S1x1 (constant S_ .f32 0x00800000#32))) (fin V main_call8_call0_v31) := by
  have h : fin V main_call8_call0_v1 = (broadcastInDim S1x1 ![] bcast_S_S1x1 (constant S_ .f32 0x00800000#32) : Reals S1x1) := by
    unfold fin; rw [split V 130]; generalize upto refOps.1 V 130 = W
    after_reads_simp
    simp -implicitDefEqProofs only [TRef.ofBuf, TRef.toBuf, cast_cast, cast_eq]
  rw [← h]
  unfold fin; rw [split V 391]; generalize upto refOps.1 V 391 = W
  after_reads_simp
  simp -implicitDefEqProofs only [TRef.ofBuf, TRef.toBuf, cast_cast, cast_eq]

theorem read_noisy : fin V main_v49 =
    addf (F := Ideal) (φ := .f32) (noiseVal (fin V main_call8_v0)) (fin V main_v47) := by
  unfold fin; rw [split V 393]; generalize upto refOps.1 V 393 = W
  after_reads_simp
  simp -implicitDefEqProofs only [TRef.ofBuf, TRef.toBuf, cast_cast, cast_eq]
  clean_types
  unfold noiseVal
  rfl

theorem read_result : fin V main_v50 = argmaxVal (fin V main_v49) := by
  unfold fin; rw [split V 398]; generalize upto refOps.1 V 398 = W
  after_reads_simp
  simp -implicitDefEqProofs only [TRef.ofBuf, TRef.toBuf, cast_cast, cast_eq]
  clean_types
  unfold argmaxVal argPlace
  rfl

end Cert.ReferenceIdeal.Proof
-- ==== Proof.R.Sort.lean ====
/-
  Facts about a stable sort: what it puts first, and what sorting a permutation of the positions gives.
-/
module

public import Idealize.ShloMosaic.Lib.SortFacts

@[expose] public section

namespace Cert.Proof

open Idealize.ShloMosaic

/-- A stable sort puts first the earliest of the least elements. -/
theorem head_stableSort {n : Nat} (before : Fin n → Fin n → Bool) (v : Fin n) (l : List (Fin n)) (hl : l.Pairwise (· < ·)) (hv : v ∈ l)
    (hlt : ∀ a ∈ l, a < v → before v a = true) (hgt : ∀ a ∈ l, v < a → before a v = false) : ∃ r, stableSort before l = v :: r := by
  induction l with
  | nil => simp at hv
  | cons a l ih =>
    rw [List.pairwise_cons] at hl
    rcases List.mem_cons.mp hv with rfl | hv'
    · refine ⟨stableSort before l, ?_⟩
      change insertBefore before v (stableSort before l) = _
      have hall : ∀ b ∈ stableSort before l, before b v = false := fun b hb => by
        have hb' := (perm_stableSort before l).mem_iff.mp hb
        exact hgt b (List.mem_cons_of_mem _ hb') (hl.1 b hb')
      cases hs : stableSort before l with
      | nil => simp [insertBefore]
      | cons b m => rw [hs] at hall; simp [insertBefore, hall b]
    · obtain ⟨r, hr⟩ := ih hl.2 hv' (fun b hb => hlt b (List.mem_cons_of_mem _ hb)) (fun b hb => hgt b (List.mem_cons_of_mem _ hb))
      refine ⟨insertBefore before a r, ?_⟩
      change insertBefore before a (stableSort before l) = _
      rw [hr]
      simp [insertBefore, hlt a List.mem_cons_self (hl.1 v hv')]

/-- So the position that lands first is the earliest of the least ones. -/
theorem sortedFrom_first {n : Nat} (before : Fin n → Fin n → Bool) (v : Fin n) (h0 : 0 < n)
    (hlt : ∀ a, a < v → before v a = true) (hgt : ∀ a, v < a → before a v = false) : sortedFrom before ⟨0, h0⟩ = v := by
  obtain ⟨r, hr⟩ := head_stableSort before v (List.finRange n) (List.pairwise_lt_finRange n) (List.mem_finRange v) (fun a _ => hlt a) (fun a _ => hgt a)
  have hr' : sortPositions n before = v :: r := hr
  unfold sortedFrom
  simp [hr']

/-- A strictly increasing map of `Fin n` into itself is the identity. -/
theorem strictMono_eq {n : Nat} (f : Fin n → Fin n) (hf : StrictMono f) (i : Fin n) : f i = i := by
  have hid : f = id := (Finite.injective_iff_surjective.mp hf.injective) |> fun hs => by
    have h := StrictMono.range_inj (f := f) (g := id) hf strictMono_id |>.mp (by rw [hs.range_eq]; simp)
    exact h
  rw [hid]; rfl

/-- Sorting the positions by an injective rank below `n` inverts the rank. -/
theorem rank_sortedFrom {n : Nat} (before : Fin n → Fin n → Bool) (w : Fin n → Fin n) (hw : Function.Injective w)
    (hb : ∀ a b, before a b = decide (w a < w b)) (i : Fin n) : w (sortedFrom before i) = i := by
  refine strictMono_eq (fun k => w (sortedFrom before k)) (fun a b hab => ?_) i
  have h := sortedFrom_noInversion before before (fun x y h => by rw [hb] at h ⊢; simp only [decide_eq_true_eq, decide_eq_false_iff_not] at h ⊢; omega)
    (fun _ _ h => h) (fun x y z h h' => by rw [hb] at h h' ⊢; simp only [decide_eq_false_iff_not] at h h' ⊢; omega) a b hab
  rw [hb] at h
  simp only [decide_eq_false_iff_not] at h
  exact lt_of_le_of_ne (not_lt.mp h) fun e => hab.ne (sortedFrom_injective before (hw e))

end Cert.Proof
-- ==== Proof.R.Index.lean ====
/-
  The reference's index operations read at one cell: the position's take, the reads along a row, the two sorts, the repeated
  columns and the first running sum.
-/
module

public import proofs.«01_k».proof.Proof.R.Stages
public import proofs.«01_k».proof.Proof.R.Sort
public import Idealize.ShloMosaic.Lib.StableHlo.Predicate
public import Idealize.ShloMosaic.Lib.ValueIdxCore
public import Idealize.ShloMosaic.Lib.IdealHost
public import Idealize.ShloMosaic.Lib.ReduceAll

@[expose] public section

namespace Cert.ReferenceIdeal.Proof

open Cert.ReferenceIdeal Cert.ReferenceIdeal.Gen Cert.Proof
open Idealize.ShloMosaic Idealize.ShloMosaic.ValueIdx Idealize.ShloMosaic.StableHlo.Predicate

/-- A small word read as a signed number. -/
theorem toInt_small (n : ℕ) (h : n < 2 ^ 31) : (BitVec.ofNat 32 n).toInt.toNat = n := by
  rw [toInt_ofNat_small n h]; rfl

/-- A small word is not negative. -/
theorem not_neg (n : ℕ) (h : n < 2 ^ 31) : ¬ IntOp.cmpi .slt (BitVec.ofNat 32 n) 0#32 = 1#1 := by
  intro h'
  have h2 := (slt_ofNat_iff n 0 h (by decide)).mp h'
  omega

/-- A small word is at least zero. -/
theorem sge_zero (n : ℕ) (h : n < 2 ^ 31) : IntOp.cmpi .sge (BitVec.ofNat 32 n) 0#32 = 1#1 :=
  (sle_ofNat_iff 0 n (by decide) h).mpr (Nat.zero_le n)

/-- A small word is at most a bound. -/
theorem sle_bound (n m : ℕ) (h : n ≤ m) (hm : m < 2 ^ 31) : IntOp.cmpi .sle (BitVec.ofNat 32 n) (BitVec.ofNat 32 m) = 1#1 :=
  (sle_ofNat_iff n m (by omega) hm).mpr h

/-- A column repeated along the vocabulary, at one cell. -/
theorem cols_apply (x : Reals S32) (b : Fin 32) (v : Fin 100000) : cols x (ix2 b v) = x (ix1 b) := by
  unfold cols broadcastInDim
  congr 1
  funext a
  obtain rfl : a = 0 := Subsingleton.elim _ _
  rfl

theorem colsI_apply (x : Words S32) (b : Fin 32) (v : Fin 100000) : colsI x (ix2 b v) = x (ix1 b) := by
  unfold colsI broadcastInDim
  congr 1
  funext a
  obtain rfl : a = 0 := Subsingleton.elim _ _
  rfl

theorem ranks_apply (b : Fin 32) (v : Fin 100000) : ranks (ix2 b v) = BitVec.ofNat 32 v.val := rfl

/-- The reads along a row, at one cell: the index is read signed and kept in range. -/
theorem gather_along (x : Reals S32x100000) (i : Words S32x100000x1) (b : Fin 32) (r : Fin 100000) :
    Host.gather gather_S32x100000_S32x100000x1_S32x100000_n_1_0_0_1_2_11 x i (ix2 b r)
      = x (ix2 b ⟨min (i (ix3 b r 0)).toInt.toNat 99999, by omega⟩) := by
  unfold Host.gather
  congr 1
  have hs : gather_S32x100000_S32x100000x1_S32x100000_n_1_0_0_1_2_11.siIdx (ix2 b r) ⟨0, by decide⟩ = ix3 b r 0 := by
    funext c
    refine Fin.ext ?_
    match c with
    | ⟨0, _⟩ => rfl
    | ⟨1, _⟩ => rfl
    | ⟨2, _⟩ => rfl
  funext a
  refine Fin.ext ?_
  match a with
  | ⟨0, _⟩ =>
    show GatherDims.start _ _ _ 0 + GatherDims.batchCoord _ _ 0 + GatherDims.offCoord _ _ 0 = b.val
    rw [GatherDims.offCoord_eq_zero _ _ _ (by decide)]
    unfold GatherDims.start GatherDims.batchCoord
    rw [dif_neg (by decide), dif_pos (by decide)]
    show 0 + b.val + 0 = b.val
    omega
  | ⟨1, _⟩ =>
    show GatherDims.start _ _ _ 1 + GatherDims.batchCoord _ _ 1 + GatherDims.offCoord _ _ 1 = min (i (ix3 b r 0)).toInt.toNat 99999
    rw [GatherDims.offCoord_eq_zero _ _ _ (by decide), GatherDims.batchCoord_eq_zero _ _ _ (by decide)]
    unfold GatherDims.start
    rw [dif_pos (by decide), ← hs]
    rfl

/-- The take at one position, at one cell. -/
theorem gather_take (x : Reals S32x8x1024) (i : Words S1x1) (b : Fin 32) (k : Fin 1024) :
    Host.gather gather_S32x8x1024_S1x1_S32x1x1024_02_1_n_n_1_1_3211024 x i (ix3 b 0 k)
      = x (ix3 b ⟨min (i (ix2 0 0)).toInt.toNat 7, by omega⟩ k) := by
  unfold Host.gather
  congr 1
  have hs : gather_S32x8x1024_S1x1_S32x1x1024_02_1_n_n_1_1_3211024.siIdx (ix3 b 0 k) ⟨0, by decide⟩ = ix2 0 0 := by
    funext c
    refine Fin.ext ?_
    match c with
    | ⟨0, _⟩ => rfl
    | ⟨1, _⟩ => rfl
  funext a
  refine Fin.ext ?_
  match a with
  | ⟨0, _⟩ =>
    show GatherDims.start _ _ _ 0 + GatherDims.batchCoord _ _ 0 + GatherDims.offCoord _ _ 0 = b.val
    rw [GatherDims.batchCoord_eq_zero _ _ _ (by decide)]
    unfold GatherDims.start GatherDims.offCoord
    rw [dif_neg (by decide), dif_pos (by decide)]
    show 0 + 0 + b.val = b.val
    omega
  | ⟨1, _⟩ =>
    show GatherDims.start _ _ _ 1 + GatherDims.batchCoord _ _ 1 + GatherDims.offCoord _ _ 1 = min (i (ix2 0 0)).toInt.toNat 7
    rw [GatherDims.offCoord_eq_zero _ _ _ (by decide), GatherDims.batchCoord_eq_zero _ _ _ (by decide)]
    unfold GatherDims.start
    rw [dif_pos (by decide), ← hs]
    rfl
  | ⟨2, _⟩ =>
    show GatherDims.start _ _ _ 2 + GatherDims.batchCoord _ _ 2 + GatherDims.offCoord _ _ 2 = k.val
    rw [GatherDims.batchCoord_eq_zero _ _ _ (by decide)]
    unfold GatherDims.start GatherDims.offCoord
    rw [dif_neg (by decide), dif_pos (by decide)]
    show 0 + 0 + k.val = k.val
    omega

end Cert.ReferenceIdeal.Proof
-- ==== Proof.R.Reading.lean ====
/-
  The reference's take, reads along a row, sorts and first running sum, each at one cell.
-/
module

public import proofs.«01_k».proof.Proof.R.Index
public import Idealize.ShloMosaic.Lib.Pipeline.Value

@[expose] public section

namespace Cert.ReferenceIdeal.Proof

open Cert.ReferenceIdeal Cert.ReferenceIdeal.Gen Cert.Proof
open Idealize.ShloMosaic Idealize.ShloMosaic.ValueIdx Idealize.ShloMosaic.StableHlo.Predicate

/-- A choice whose bit is set. -/
theorem select_set {α : Type} {c : BitVec 1} (h : c = 1#1) (x y : α) : Scalar.select c x y = x := if_pos h

/-- A choice whose bit is not set. -/
theorem select_clear {α : Type} {c : BitVec 1} (h : ¬ c = 1#1) (x y : α) : Scalar.select c x y = y := if_neg h

/-- The hidden states at a position in range. -/
theorem takeVal_apply (x : Reals S32x8x1024) (i : Words S1) (p : Fin 8) (hi : ∀ j, i j = BitVec.ofNat 32 p.val) (b : Fin 32) (k : Fin 1024) :
    takeVal x i (ix3 b 0 k) = x (ix3 b p k) := by
  have hp := p.isLt
  have hw : wrapPos i = i := by
    funext j
    show Scalar.select (IntOp.cmpi .slt (i j) 0#32) _ (i j) = i j
    rw [select_clear (by rw [hi j]; exact not_neg _ (by omega))]
  have hin : ∀ j, posInside (broadcastInDim S1x1 ![0] bcast_S1_S1x1_0 i) j = 1#1 := by
    intro j
    refine Host.reduce_andi_one _ _ _ _ _ rfl fun a => ?_
    show IntOp.andi (IntOp.cmpi .sge (i _) 0#32) (IntOp.cmpi .sle (i _) 7#32) = 1#1
    rw [hi, sge_zero _ (by omega), sle_bound p.val 7 (by omega) (by decide)]
    rfl
  unfold takeVal
  rw [hw]
  show Scalar.select (posInside _ _) (Host.gather _ x _ (ix3 b 0 k)) _ = _
  rw [select_set (hin _), gather_take]
  congr 2
  refine Fin.ext ?_
  show min (i _).toInt.toNat 7 = p.val
  rw [hi, toInt_small _ (by omega)]
  omega

/-- A row read at indices in range. -/
theorem alongVal_apply (x : Reals S32x100000) (i : Words S32x100000) (w : Fin 32 → Fin 100000 → Fin 100000)
    (hi : ∀ b r, i (ix2 b r) = BitVec.ofNat 32 (w b r).val) (b : Fin 32) (r : Fin 100000) :
    alongVal x i (ix2 b r) = x (ix2 b (w b r)) := by
  have hi' : ∀ j : S32x100000.Idx, ∃ n : Fin 100000, i j = BitVec.ofNat 32 n.val := fun j =>
    ⟨w (j 0) (j 1), (congrArg i (eq_ix2 j)).trans (hi _ _)⟩
  have hw : select (cmpi .slt i (broadcastInDim S32x100000 ![] bcast_S_S32x100000 (constantI S_ 32 0#32)))
      (addi i (broadcastInDim S32x100000 ![] bcast_S_S32x100000 (constantI S_ 32 100000#32))) i = i := by
    funext j
    obtain ⟨n, hn⟩ := hi' j
    have := n.isLt
    show Scalar.select (IntOp.cmpi .slt (i j) 0#32) _ (i j) = i j
    rw [select_clear (by rw [hn]; exact not_neg _ (by omega))]
  have hin : ∀ j, idxInside (shapeCast S32x100000x1 i shapeCasts_S32x100000_S32x100000x1) j = 1#1 := by
    intro j
    refine Host.reduce_andi_one _ _ _ _ _ rfl fun a => ?_
    obtain ⟨n, hn⟩ : ∃ n : Fin 100000, shapeCast S32x100000x1 i shapeCasts_S32x100000_S32x100000x1 a = BitVec.ofNat 32 n.val := hi' _
    have := n.isLt
    show IntOp.andi (IntOp.cmpi .sge (shapeCast _ i _ a) 0#32) (IntOp.cmpi .sle (shapeCast _ i _ a) 99999#32) = 1#1
    rw [hn, sge_zero _ (by omega), sle_bound n.val 99999 (by omega) (by decide)]
    rfl
  have hc : shapeCast S32x100000x1 i shapeCasts_S32x100000_S32x100000x1 (ix3 b r 0) = i (ix2 b r) := by
    refine shapeCast_apply _ _ _ _ ?_
    simp [Shape.rowMajor_val_two, Shape.rowMajor_val_three]
  have hlt := (w b r).isLt
  unfold alongVal wrapIdx
  rw [hw]
  show Scalar.select (idxInside _ _) (Host.gather _ x _ (ix2 b r)) _ = _
  rw [select_set (hin _), gather_along]
  congr 2
  refine Fin.ext ?_
  show min (shapeCast _ i _ (ix3 b r 0)).toInt.toNat 99999 = (w b r).val
  rw [hc, hi, toInt_small _ (by omega)]
  omega

/-- The first sort's comparison is the order of the reals. -/
theorem before_reals (l r : Ideal .f32 × BitVec 32) : (comparator_f32_i32_d1 l r == 1#1) = decide (l.1 < r.1) := by
  have hz : ∀ a : Ideal .f32, Scalar.select (FloatOps.cmpf .une a a) (FloatOps.ofBits .f32 0x7FC00000#32)
      (Scalar.select (FloatOps.cmpf .oeq a (FloatOps.ofBits .f32 0x00000000#32)) (FloatOps.ofBits .f32 0x00000000#32) a) = a := by
    intro a
    have h1 : ¬ FloatOps.cmpf .une a a = 1#1 := by simp [Ideal.cmpf_def, Ideal.cmp]
    rw [select_clear h1]
    by_cases h : a = FloatOps.ofBits .f32 0x00000000#32
    · rw [select_set (by rw [Ideal.cmpf_def]; simp [Ideal.cmp, h])]
      exact h.symm
    · have h2 : ¬ FloatOps.cmpf .oeq a (FloatOps.ofBits .f32 0x00000000#32) = 1#1 := by
        show ¬ BitVec.ofBool (decide (a = FloatOps.ofBits .f32 0x00000000#32)) = 1#1
        rw [ofBool_eq_one_iff, decide_eq_true_eq]
        exact h
      rw [select_clear h2]
  show (FloatOps.cmpfTotal .lt (Scalar.select _ _ (Scalar.select _ _ l.1)) (Scalar.select _ _ (Scalar.select _ _ r.1)) == 1#1) = _
  rw [hz, hz, Ideal.cmpfTotal_def]
  by_cases h : l.1 < r.1 <;> simp [Ideal.cmp, CmpDirection.ordered, h]

/-- The second sort's comparison is the order of small words. -/
theorem before_words (a b : ℕ) (ha : a < 2 ^ 31) (hb : b < 2 ^ 31) (i j : BitVec 32) :
    (comparator_i32_i32_d1 (BitVec.ofNat 32 a, i) (BitVec.ofNat 32 b, j) == 1#1) = decide (a < b) := by
  have h := slt_ofNat_iff a b ha hb
  show (BitVec.ofBool ((BitVec.ofNat 32 a).slt (BitVec.ofNat 32 b)) == 1#1) = _
  by_cases hab : a < b
  · simp [hab, h.mpr hab]
  · simp only [hab, decide_false, beq_eq_false_iff_ne, ne_eq]
    exact fun h' => hab (h.mp h')

/-- A sort of the rows of a rectangle, read at one cell: the column that a stable sort of the row puts there. -/
theorem sort2_apply {α β : Type} {n m : ℕ} (cmp : α × β → α × β → BitVec 1) (x : (⟨2, ![n, m]⟩ : Shape).Idx → α)
    (y : (⟨2, ![n, m]⟩ : Shape).Idx → β) (b : Fin n) (r : Fin m) :
    (Host.sort2 ⟨2, ![n, m]⟩ 1 cmp x y).2 (ix2 b r)
      = y (ix2 b (sortedFrom (fun k k' : Fin m => cmp (x (ix2 b k), y (ix2 b k)) (x (ix2 b k'), y (ix2 b k')) == 1#1) r)) := by
  have h : ∀ k : Fin m, (ix2 b r : (⟨2, ![n, m]⟩ : Shape).Idx).along 1 k = ix2 b k := by
    intro k
    funext a
    match a with
    | ⟨0, _⟩ => rfl
    | ⟨1, _⟩ => rfl
  unfold Host.sort2
  rw [dif_pos (by decide : (1 : ℕ) < 2)]
  show y ((ix2 b r : (⟨2, ![n, m]⟩ : Shape).Idx).along 1 (sortedFrom (fun k k' : Fin m =>
    cmp (x ((ix2 b r : (⟨2, ![n, m]⟩ : Shape).Idx).along 1 k), y ((ix2 b r : (⟨2, ![n, m]⟩ : Shape).Idx).along 1 k))
      (x ((ix2 b r : (⟨2, ![n, m]⟩ : Shape).Idx).along 1 k'), y ((ix2 b r : (⟨2, ![n, m]⟩ : Shape).Idx).along 1 k')) == 1#1) r)) = _
  simp only [h]
  exact congrArg y (h _)

/-- The first sort at one cell. -/
theorem sortReals_apply (x : Reals S32x100000) (b : Fin 32) (r : Fin 100000) :
    sortReals x (ix2 b r) = BitVec.ofNat 32 (sortedFrom (fun k k' : Fin 100000 => decide (x (ix2 b k) < x (ix2 b k'))) r).val := by
  refine (sort2_apply comparator_f32_i32_d1 x (iotaInDim S32x100000 32 1) b r).trans ?_
  simp only [before_reals]
  rfl

/-- The second sort at one cell. -/
theorem sortWords_apply (x : Words S32x100000) (w : Fin 32 → Fin 100000 → Fin 100000)
    (hx : ∀ b r, x (ix2 b r) = BitVec.ofNat 32 (w b r).val) (b : Fin 32) (r : Fin 100000) :
    sortWords x (ix2 b r) = BitVec.ofNat 32 (sortedFrom (fun k k' : Fin 100000 => decide (w b k < w b k')) r).val := by
  have h : ∀ k : Fin 100000, (w b k).val < 2 ^ 31 := fun k => by have := (w b k).isLt; omega
  refine (sort2_apply comparator_i32_i32_d1 x (iotaInDim S32x100000 32 1) b r).trans ?_
  simp only [hx, before_words _ _ (h _) (h _), Fin.lt_def]
  rfl

/-- A left fold of a sum. -/
theorem foldl_sum {n : ℕ} (g : Fin n → EReal) (l : List (Fin n)) (v : EReal) : l.foldl (fun r k => r + g k) v = v + (l.map g).sum := by
  induction l generalizing v with
  | nil => simp
  | cons a l ih => rw [List.foldl_cons, ih, List.map_cons, List.sum_cons, add_assoc]

/-- The windowed sum that runs along a row, at the first column: the row's first value. -/
theorem window_first {n m k : ℕ} (hm : m = k + 1) (x : (⟨2, ![n, m]⟩ : Shape).Idx → EReal)
    (h : (⟨2, ![n, m]⟩ : Shape).ReduceWindows ![1, m] ![1, 1] ![0, k] ![0, 0] ⟨2, ![n, m]⟩) (b : Fin n) (c : Fin m) (hc : c.val = 0) :
    Ideal.hostReduceWindowAdd ![1, m] ![1, 1] ![0, k] ![0, 0] h x 0 (ix2 b c) = x (ix2 b c) := by
  let W : Shape := ⟨2, ![1, m]⟩
  let last : W.Idx := ix2 0 ⟨k, by omega⟩
  unfold Ideal.hostReduceWindowAdd Host.reduceWindow
  refine (foldl_sum _ _ _).trans ?_
  rw [← List.ofFn_eq_map, List.sum_ofFn, Finset.sum_eq_single (W.rowMajor last)]
  · have hp : ∀ a : Fin 2, ((ix2 b c : (⟨2, ![n, m]⟩ : Shape).Idx) a).val * (![1, 1] : Fin 2 → ℕ) a + (W.rowMajor.symm (W.rowMajor last) a).val
        = ((ix2 b c : (⟨2, ![n, m]⟩ : Shape).Idx) a).val + (![0, k] : Fin 2 → ℕ) a := by
      intro a
      rw [Equiv.symm_apply_apply]
      match a with
      | ⟨0, _⟩ => exact congrArg (· + 0) (Nat.mul_one _)
      | ⟨1, _⟩ => exact congrArg (· + k) (Nat.mul_one _)
    rw [zero_add, dif_pos]
    · congr 1
      funext a
      refine Fin.ext ?_
      exact Nat.sub_eq_of_eq_add (hp a)
    · intro a
      exact ⟨le_of_le_of_eq (Nat.le_add_left _ _) (hp a).symm,
        lt_of_eq_of_lt (Nat.sub_eq_of_eq_add (hp a)) ((ix2 b c : (⟨2, ![n, m]⟩ : Shape).Idx) a).isLt⟩
  · intro d _ hn
    rw [dif_neg]
    intro hin
    refine hn ((Equiv.symm_apply_eq _).mp ?_)
    have h2 : k ≤ c.val * 1 + (W.rowMajor.symm d 1).val := (hin 1).1
    have h3 : (W.rowMajor.symm d 1).val < m := (W.rowMajor.symm d 1).isLt
    have h4 : (W.rowMajor.symm d 0).val < 1 := (W.rowMajor.symm d 0).isLt
    funext a
    refine Fin.ext ?_
    match a with
    | ⟨0, _⟩ => exact Nat.lt_one_iff.mp h4
    | ⟨1, _⟩ =>
      show (W.rowMajor.symm d 1).val = k
      omega
  · simp

/-- The running sum at the first column. -/
theorem sums_first (x : Reals S32x100000) (b : Fin 32) : sumsVal x (ix2 b 0) = x (ix2 b 0) := by
  have h := window_first (n := 32) (m := 100000) (k := 99999) rfl x reduceWindows_S32x100000_S32x100000_w1s1p0_0_w100000s1p99999_0 b 0 rfl
  have e : (broadcastInDim S_ ![] bcast_S_S_ (constant S_ .f32 0x00000000#32) : Reals S_) (Shape.Idx.first h_S_) = (0 : EReal) :=
    Ideal.ofBits_zero_f32
  unfold sumsVal Host.reduceWindowAdd
  rw [e]
  exact h

end Cert.ReferenceIdeal.Proof
-- ==== Proof.R.Rows.lean ====
/-
  The reference's arithmetic on rows of real numbers: the scaled logits, their exponentials, a row divided by its sum, and the
  noise.
-/
module

public import proofs.«01_k».proof.Proof.R.Reading
public import proofs.«01_k».proof.Proof.V.Result
public import Idealize.ShloMosaic.Lib.StackMember

@[expose] public section

namespace Cert.ReferenceIdeal.Proof

open Cert.ReferenceIdeal Cert.ReferenceIdeal.Gen Cert.Proof
open Idealize.ShloMosaic Idealize.ShloMosaic.ValueIdx Idealize.ShloMosaic.StableHlo.Predicate
open Cert.KernelIdeal.Proof (logit logit_of_lt coe_sum)

/-- A quotient of reals, in the extended reals. -/
theorem div_real (a c : ℝ) (hc : c ≠ 0) : Ideal.div (a : EReal) (c : EReal) = ((a / c : ℝ) : EReal) := by
  rw [Ideal.div_coe hc, ← EReal.coe_mul, mul_one_div]

/-- The scaled logits of real operands. -/
theorem scaledVal_apply (x : Reals S32x1x1024) (e : Reals S100000x1024) (t : Reals S32) (H : Fin 32 → Fin 1024 → ℝ)
    (E : Fin 100000 → Fin 1024 → ℝ) (T : Fin 32 → ℝ) (hx : ∀ b k, x (ix3 b 0 k) = (H b k : EReal)) (he : ∀ v k, e (ix2 v k) = (E v k : EReal))
    (ht : ∀ b, t (ix1 b) = (T b : EReal)) (hT : ∀ b, T b ≠ 0) (b : Fin 32) (v : Fin 100000) :
    scaledVal x e t (ix2 b v) = ((logit H E b v.val / T b : ℝ) : EReal) := by
  have h := StackMember.dotGeneral_plain_apply (m := 32) (k := 1024) (n := 100000) (φ₁ := .f32) (φ₂ := .f32) none
    (shapeCast S32x1024 x shapeCasts_S32x1x1024_S32x1024)
    (transpose S1024x100000 [1, 0] e transposes_S100000x1024_S1024x100000_1_0) b v
  have hs : ∀ k : Fin 1024, shapeCast S32x1024 x shapeCasts_S32x1x1024_S32x1024 (ix2 b k) = (H b k : EReal) := by
    intro k
    refine (shapeCast_apply _ _ _ (ix3 b 0 k) ?_).trans (hx b k)
    simp [Shape.rowMajor_val_two, Shape.rowMajor_val_three]
  have htr : ∀ k : Fin 1024, transpose S1024x100000 [1, 0] e transposes_S100000x1024_S1024x100000_1_0 (ix2 k v) = (E v k : EReal) := by
    intro k
    refine (transpose_apply [1, 0] _ _ _ (ix2 v k) ?_).trans (he v k)
    intro a
    match a with
    | ⟨0, _⟩ => rfl
    | ⟨1, _⟩ => rfl
  have hd : Host.dotGeneral dot_S32x1024_S1024x100000_S32x100000_1_0_0_1_n_n none (shapeCast S32x1024 x shapeCasts_S32x1x1024_S32x1024)
      (transpose S1024x100000 [1, 0] e transposes_S100000x1024_S1024x100000_1_0) (ix2 b v) = ((logit H E b v.val : ℝ) : EReal) := by
    refine Eq.trans h ?_
    rw [logit_of_lt, coe_sum]
    exact Finset.sum_congr rfl fun k _ => by rw [hs, htr, EReal.coe_mul]
  unfold scaledVal
  rw [hostDivf_apply, hd, cols_apply, ht, div_real _ _ (hT b)]

/-- The greatest of reals is a real. -/
theorem foldl_max_real {ι : Type} (g : ι → EReal) (hg : ∀ i, ∃ r : ℝ, g i = r) (l : List ι) (r : ℝ) :
    ∃ r' : ℝ, l.foldl (fun s i => max s (g i)) (r : EReal) = r' := by
  induction l generalizing r with
  | nil => exact ⟨r, rfl⟩
  | cons a l ih =>
    obtain ⟨q, hq⟩ := hg a
    rw [List.foldl_cons, hq, show max (r : EReal) (q : EReal) = ((max r q : ℝ) : EReal) from (EReal.coe_strictMono.monotone.map_max).symm]
    exact ih _

/-- The greatest value of a row of reals is a real. -/
theorem rowMax_real {n m : ℕ} {u : Shape} (f : EReal → EReal → EReal) (hf : f = fun y z => max y z) (x : (⟨2, ![n, m]⟩ : Shape).Idx → EReal) (init : u.Idx → EReal)
    (h : (⟨2, ![n, m]⟩ : Shape).ReducesTo [1] ⟨1, ![n]⟩) (hu : 0 < u.numel) (hx : ∀ i, ∃ r : ℝ, x i = r)
    (h0 : init (Shape.Idx.first hu) = ⊥) (b : Fin n) (c : Fin m) : ∃ r : ℝ, Host.reduce f x init h hu (ix1 b) = r := by
  subst hf
  have hd : h.drop (ix2 b c) = ix1 b := by
    funext a
    match a with
    | ⟨0, _⟩ => rfl
  rw [Host.reduce_eq_foldl, h0]
  have hmem : ix2 b c ∈ ((List.finRange (⟨2, ![n, m]⟩ : Shape).numel).map (⟨2, ![n, m]⟩ : Shape).rowMajor.symm).filter fun k => h.drop k = ix1 b :=
    List.mem_filter.mpr ⟨List.mem_map.mpr ⟨(⟨2, ![n, m]⟩ : Shape).rowMajor (ix2 b c), List.mem_finRange _, Equiv.symm_apply_apply _ _⟩, by simp [hd]⟩
  generalize ((List.finRange (⟨2, ![n, m]⟩ : Shape).numel).map (⟨2, ![n, m]⟩ : Shape).rowMajor.symm).filter (fun k => h.drop k = ix1 b) = l at hmem ⊢
  match l, hmem with
  | a :: l, _ =>
    obtain ⟨q, hq⟩ := hx a
    rw [List.foldl_cons, hq, max_eq_right bot_le]
    exact foldl_max_real x hx l q

/-- The word for minus infinity. -/
theorem neg_inf : (constant S_ .f32 0xFF800000#32 : Reals S_) (Shape.Idx.first h_S_) = (⊥ : EReal) := by
  show (FloatOps.ofBits .f32 0xFF800000#32 : Ideal .f32) = (⊥ : EReal)
  simp [Ideal.ofBits, Ideal.ieee]

/-- The greatest value of a real row is a real. -/
theorem rowMax_apply (x : Reals S32x100000) (hx : ∀ j, ∃ r : ℝ, x j = (r : EReal)) (b : Fin 32) : ∃ r : ℝ, rowMax x (ix1 b) = (r : EReal) :=
  rowMax_real (n := 32) (m := 100000) (FloatOps.maximumf (F := Ideal) (φ := .f32)) rfl x (constant S_ .f32 0xFF800000#32 : Reals S_)
    reducesTo_S32x100000_S32_d1 h_S_ hx neg_inf b 0

/-- The greater of the least value and an array's cell is that cell. -/
theorem max_neg_inf_apply (y : Reals S32) (b : Fin 32) :
    maximumf (broadcastInDim S32 ![] bcast_S_S32 (constant S_ .f32 0xFF800000#32)) y (ix1 b) = y (ix1 b) := by
  have hbot : (FloatOps.ofBits .f32 0xFF800000#32 : Ideal .f32) = (⊥ : EReal) := by simp [Ideal.ofBits, Ideal.ieee]
  exact (congrArg (fun z : EReal => max z (y (ix1 b))) hbot).trans (max_eq_right bot_le)

/-- The exponential of a difference of two real cells. -/
theorem exp_sub_apply (x y : Reals S32x100000) (j : S32x100000.Idx) (a c : ℝ) (hx : x j = (a : EReal)) (hy : y j = (c : EReal)) :
    Host.exp (subf x y) j = ((Real.exp (a - c) : ℝ) : EReal) := by
  have h : Host.exp (subf x y) j = Ideal.exp ((x j : EReal) - (y j : EReal) : EReal) := rfl
  rw [h, hx, hy, ← EReal.coe_sub]
  exact Ideal.exp_coe (a - c)

/-- The exponentials of a real array: some row shift, then the real exponential. -/
theorem expVal_apply (x : Reals S32x100000) (f : Fin 32 → Fin 100000 → ℝ) (hx : ∀ b v, x (ix2 b v) = (f b v : EReal)) :
    ∃ M : Fin 32 → ℝ, ∀ b v, expVal x (ix2 b v) = ((Real.exp (f b v - M b) : ℝ) : EReal) := by
  have hr : ∀ j : S32x100000.Idx, ∃ r : ℝ, x j = (r : EReal) := fun j => ⟨f (j 0) (j 1), (congrArg x (eq_ix2 j)).trans (hx _ _)⟩
  choose M hM using rowMax_apply x hr
  exact ⟨M, fun b v => exp_sub_apply x _ (ix2 b v) (f b v) (M b) (hx b v)
    ((cols_apply _ b v).trans ((max_neg_inf_apply (rowMax x) b).trans (hM b)))⟩

/-- The sum of a real row. -/
theorem rowSum_apply (x : Reals S32x100000) (f : Fin 32 → Fin 100000 → ℝ) (hx : ∀ b v, x (ix2 b v) = (f b v : EReal)) (b : Fin 32) :
    rowSum x (ix1 b) = ((∑ u, f b u : ℝ) : EReal) := by
  have h0 : (constant S_ .f32 0x00000000#32 : Reals S_) (Shape.Idx.first h_S_) = (0 : EReal) := Ideal.ofBits_zero_f32
  unfold rowSum
  rw [hostReduceAdd_apply, h0]
  refine (Ideal.hostReduceAdd_single reducesTo_S32x100000_S32_d1 (by decide) x _ (ix1 b)).trans ?_
  rw [zero_add, coe_sum]
  refine Finset.sum_congr rfl fun k _ => ?_
  refine (congrArg x ?_).trans (hx b k)
  funext a
  match a with
  | ⟨0, _⟩ => rfl
  | ⟨1, _⟩ => rfl

/-- A real array divided by its row sums. -/
theorem normVal_apply (x : Reals S32x100000) (f : Fin 32 → Fin 100000 → ℝ) (hx : ∀ b v, x (ix2 b v) = (f b v : EReal))
    (hf : ∀ b, ∑ v, f b v ≠ 0) (b : Fin 32) (v : Fin 100000) : normVal x (ix2 b v) = ((f b v / ∑ u, f b u : ℝ) : EReal) := by
  unfold normVal
  rw [hostDivf_apply, cols_apply, rowSum_apply x f hx, hx, div_real _ _ (hf b)]

/-- The logarithm is plus infinity only there. -/
theorem log_ne_top {x : EReal} (h : x ≠ ⊤) : Ideal.log x ≠ ⊤ := by
  induction x using EReal.rec with
  | bot => simp
  | top => exact absurd rfl h
  | coe r => rw [Ideal.log_coe]; split <;> simp

/-- The logarithm of a positive value is not minus infinity. -/
theorem log_ne_bot {x : EReal} (h : 0 < x) : Ideal.log x ≠ ⊥ := by
  induction x using EReal.rec with
  | bot => simp at h
  | top => simp
  | coe r =>
    have hr : ¬ r ≤ 0 := not_le.mpr (EReal.coe_pos.mp h)
    rw [Ideal.log_coe, if_neg hr]; simp

/-- The smallest positive normal number is positive. -/
theorem tiny_pos : (0 : EReal) < (FloatOps.ofBits .f32 0x00800000#32 : Ideal .f32) := by
  show (0 : EReal) < Ideal.ofBits .f32 0x00800000#32
  simp [Ideal.ofBits, Ideal.ieee, -EReal.coe_mul]

/-- The noise is never minus infinity. -/
theorem noiseVal_ne (u : Reals S32x100000) (j : S32x100000.Idx) (w : EReal)
    (hw : u j = max ((FloatOps.ofBits .f32 0x00800000#32 : Ideal .f32) : EReal) w) : noiseVal u j ≠ (⊥ : EReal) := by
  show -Ideal.log (-Ideal.log (u j)) ≠ (⊥ : EReal)
  rw [hw]
  have h1 := log_ne_bot (lt_of_lt_of_le tiny_pos (le_max_left _ w))
  rw [Ne, EReal.neg_eq_bot_iff]
  refine log_ne_top ?_
  rw [Ne, EReal.neg_eq_top_iff]
  exact h1

end Cert.ReferenceIdeal.Proof
-- ==== Proof.R.Argmax.lean ====
/-
  The place of a row's greatest value when all others are minus infinity.
-/
module

public import proofs.«01_k».proof.Proof.R.Rows

@[expose] public section

namespace Cert.ReferenceIdeal.Proof

open Cert.ReferenceIdeal Cert.ReferenceIdeal.Gen
open Idealize.ShloMosaic Idealize.ShloMosaic.ValueIdx

/-- The step of the reference's arg-max keeps whatever pair is above minus infinity: the four cases met. -/
structure Keeps (f : EReal × BitVec 32 → EReal × BitVec 32 → EReal × BitVec 32) : Prop where
  none : ∀ i j, (f (⊥, i) (⊥, j)).1 = ⊥
  take : ∀ x i j, x ≠ ⊥ → f (⊥, i) (x, j) = (x, j)
  keep : ∀ x i j, x ≠ ⊥ → f (x, i) (⊥, j) = (x, i)
  same : ∀ x i, f (x, i) (x, i) = (x, i)

/-- So does the printed step. -/
theorem keeps_reducer : Keeps (reducer_argmax_f32_i32 (F := Ideal)) where
  none i j := by simp [reducer_argmax_f32_i32, Scalar.select, Ideal.cmpf_def, Ideal.cmp, IntOp.ori]
  take x i j hx := by
    have h : (⊥ : EReal) ≠ x := hx.symm
    simp [reducer_argmax_f32_i32, Scalar.select, Ideal.cmpf_def, Ideal.cmp, IntOp.ori, IntOp.andi, h]
  keep x i j hx := by
    have h : (⊥ : EReal) < x := bot_lt_iff_ne_bot.mpr hx
    have ho : ∀ y : BitVec 1, 1#1 ||| y = 1#1 := by decide
    simp [reducer_argmax_f32_i32, Scalar.select, Ideal.cmpf_def, Ideal.cmp, IntOp.ori, IntOp.andi, h, ho]
  same x i := by simp [reducer_argmax_f32_i32, Scalar.select]

/-- A fold of such a step over pairs at minus infinity and one repeated pair above it ends in that pair, once met. -/
theorem foldl_keeps {f : EReal × BitVec 32 → EReal × BitVec 32 → EReal × BitVec 32} (hf : Keeps f) (x : EReal) (i : BitVec 32) (hx : x ≠ ⊥)
    (l : List (EReal × BitVec 32)) (hl : ∀ p ∈ l, p.1 = ⊥ ∨ p = (x, i)) (s : EReal × BitVec 32) (hs : s.1 = ⊥ ∨ s = (x, i))
    (hm : s = (x, i) ∨ (x, i) ∈ l) : l.foldl f s = (x, i) := by
  induction l generalizing s with
  | nil => exact hm.resolve_right (by simp)
  | cons a l ih =>
    rw [List.foldl_cons]
    have hl' : ∀ p ∈ l, p.1 = ⊥ ∨ p = (x, i) := fun p hp => hl p (List.mem_cons_of_mem _ hp)
    obtain ⟨s1, s2⟩ := s
    obtain ⟨a1, a2⟩ := a
    rcases hl (a1, a2) List.mem_cons_self with ha | ha
    · obtain rfl : a1 = ⊥ := ha
      rcases hs with hs | hs
      · obtain rfl : s1 = ⊥ := hs
        refine ih hl' _ (Or.inl (hf.none _ _)) (Or.inr ?_)
        rcases hm with h | h
        · exact absurd (congrArg Prod.fst h).symm hx
        · rcases List.mem_cons.mp h with h | h
          · exact absurd (congrArg Prod.fst h) hx
          · exact h
      · rw [hs, hf.keep x i a2 hx]
        exact ih hl' _ (Or.inr rfl) (Or.inl rfl)
    · rw [ha]
      have e : f (s1, s2) (x, i) = (x, i) := by
        rcases hs with hs | hs
        · obtain rfl : s1 = ⊥ := hs
          exact hf.take x s2 i hx
        · rw [hs]; exact hf.same x i
      rw [e]
      exact ih hl' _ (Or.inr rfl) (Or.inl rfl)

/-- The place of the only value above minus infinity in a row. -/
theorem argReduce_only {n m : ℕ} {u : Shape} {axes : List (Fin (⟨2, ![n, m]⟩ : Shape).rank)} (hax : axes = [1]) (f : EReal × BitVec 32 → EReal × BitVec 32 → EReal × BitVec 32) (hf : Keeps f)
    (x : FVec Ideal ⟨2, ![n, m]⟩ .f32) (y : (⟨2, ![n, m]⟩ : Shape).Idx → BitVec 32) (ix : FVec Ideal u .f32) (iy : u.Idx → BitVec 32)
    (h : (⟨2, ![n, m]⟩ : Shape).ReducesTo axes ⟨1, ![n]⟩) (hu : 0 < u.numel) (h0 : ix (Shape.Idx.first hu) = (⊥ : EReal))
    (b : Fin n) (w : Fin m) (hw : x (ix2 b w) ≠ (⊥ : EReal)) (ho : ∀ v, v ≠ w → x (ix2 b v) = (⊥ : EReal)) :
    argPlace f x y ix iy h hu (ix1 b) = y (ix2 b w) := by
  subst hax
  have hd : ∀ (a : Fin n) (c : Fin m), h.drop (ix2 a c) = ix1 a := by
    intro a c
    funext k
    match k with
    | ⟨0, _⟩ => rfl
  unfold argPlace
  rw [Ideal.argReduce_eq_reduce2, Host.reduce2_eq_foldl_fiber, h0]
  refine congrArg Prod.snd (foldl_keeps hf (x (ix2 b w)) (y (ix2 b w)) hw _ (fun p hp => ?_) _ (Or.inl rfl) (Or.inr ?_))
  · obtain ⟨k, hk, rfl⟩ := List.mem_map.mp hp
    have hk2 := (List.mem_filter.mp hk).2
    generalize (⟨2, ![n, m]⟩ : Shape).rowMajor.symm k = i at hk2 ⊢
    obtain ⟨a, c, hi⟩ : ∃ (a : Fin n) (c : Fin m), i = ix2 a c := ⟨i 0, i 1, eq_ix2 i⟩
    have hb : h.drop i = ix1 b := by simpa using hk2
    rw [hi, hd] at hb
    obtain rfl : a = b := congrFun hb 0
    rw [hi]
    by_cases hv : c = w
    · exact Or.inr (by rw [hv])
    · exact Or.inl (ho _ hv)
  · refine List.mem_map.mpr ⟨(⟨2, ![n, m]⟩ : Shape).rowMajor (ix2 b w), List.mem_filter.mpr ⟨List.mem_finRange _, ?_⟩, ?_⟩
    · simp [hd]
    · rw [Equiv.symm_apply_apply]

/-- The reference's arg-max of a row with one value above minus infinity. -/
theorem argmaxVal_only (x : Reals S32x100000) (b : Fin 32) (w : Fin 100000) (hw : x (ix2 b w) ≠ (⊥ : EReal))
    (ho : ∀ v, v ≠ w → x (ix2 b v) = (⊥ : EReal)) : argmaxVal x (ix1 b) = BitVec.ofNat 32 w.val := by
  delta argmaxVal
  exact argReduce_only (n := 32) (m := 100000) rfl (reducer_argmax_f32_i32 (F := Ideal)) keeps_reducer x (iotaInDim S32x100000 32 1)
    (constant S_ .f32 0xFF800000#32 : Reals S_) (constantI S_ 32 0#32) reducesTo_S32x100000_S32_d1 h_S_ neg_inf b w hw ho

end Cert.ReferenceIdeal.Proof
-- ==== Proof.R.Value.lean ====
/-
  What the reference returns: with at most one token kept per row, the first place of the greatest logit.
-/
module

public import proofs.«01_k».proof.Proof.R.Rows
public import proofs.«01_k».proof.Proof.R.Sort
public import proofs.«01_k».proof.Proof.R.Argmax

@[expose] public section

namespace Cert.ReferenceIdeal.Proof

open Cert.ReferenceIdeal Cert.ReferenceIdeal.Gen Cert.Proof
open Idealize.ShloMosaic Idealize.ShloMosaic.ValueIdx Idealize.ShloMosaic.StableHlo.Predicate

/-- The probabilities of real logits: positive reals, ordered as the logits are. -/
theorem probs_apply (x : Reals S32x100000) (f : Fin 32 → Fin 100000 → ℝ) (hx : ∀ b v, x (ix2 b v) = (f b v : EReal)) :
    ∃ P : Fin 32 → Fin 100000 → ℝ, (∀ b v, 0 < P b v) ∧ (∀ b u v, P b u < P b v ↔ f b u < f b v) ∧
      ∀ b v, normVal (expVal x) (ix2 b v) = (P b v : EReal) := by
  obtain ⟨M, hM⟩ := expVal_apply x f hx
  have hS : ∀ b, 0 < ∑ u, Real.exp (f b u - M b) := fun b => Finset.sum_pos (fun _ _ => Real.exp_pos _) ⟨⟨0, by omega⟩, Finset.mem_univ _⟩
  refine ⟨fun b v => Real.exp (f b v - M b) / ∑ u, Real.exp (f b u - M b), fun b v => div_pos (Real.exp_pos _) (hS b), fun b u v => ?_, fun b v => ?_⟩
  · rw [div_lt_div_iff_of_pos_right (hS b), Real.exp_lt_exp, sub_lt_sub_iff_right]
  · exact normVal_apply (expVal x) (fun b v => Real.exp (f b v - M b)) hM (fun b => (hS b).ne') b v

/-- The places of a row in descending order, equal entries in their first order. -/
noncomputable def order (P : Fin 100000 → ℝ) : Fin 100000 → Fin 100000 := sortedFrom fun k k' => decide (P k' < P k)

/-- No two ranks share a place. -/
theorem order_injective (P : Fin 100000 → ℝ) : Function.Injective (order P) := sortedFrom_injective _

/-- Rank 0 is the first place of the greatest entry. -/
theorem order_zero (P : Fin 100000 → ℝ) (w : Fin 100000) (hle : ∀ u, ¬ P w < P u) (hlt : ∀ u, u < w → P u < P w) : order P 0 = w :=
  sortedFrom_first (fun k k' => decide (P k' < P k)) w (by omega) (fun a ha => decide_eq_true (hlt a ha)) fun a _ => decide_eq_false (hle a)

/-- Sorting the negated probabilities gives that order. -/
theorem order_apply (p : Reals S32x100000) (P : Fin 32 → Fin 100000 → ℝ) (hp : ∀ b v, p (ix2 b v) = (P b v : EReal)) (b : Fin 32) (r : Fin 100000) :
    sortReals (Host.negf p) (ix2 b r) = BitVec.ofNat 32 (order (P b) r).val := by
  have hn : ∀ v, (Host.negf p : Reals S32x100000) (ix2 b v) = (-(P b v : EReal) : EReal) := fun v => congrArg (fun z : EReal => -z) (hp b v)
  rw [sortReals_apply]
  have e : (fun k k' : Fin 100000 => decide ((Host.negf p : Reals S32x100000) (ix2 b k) < (Host.negf p : Reals S32x100000) (ix2 b k')))
      = fun k k' => decide (P b k' < P b k) := by
    funext k k'
    rw [hn, hn]
    exact decide_eq_decide.mpr (EReal.neg_lt_neg_iff.trans EReal.coe_lt_coe_iff)
  rw [e]
  rfl

/-- With one token allowed, only rank 0 is kept. -/
theorem keptVal_apply (sums x : Reals S32x100000) (p : Reals S32) (k : Words S32) (b : Fin 32) (q : ℝ) (hq : x (ix2 b 0) = (q : EReal))
    (hs : sums (ix2 b 0) = x (ix2 b 0)) (hp : (0 : EReal) ≤ p (ix1 b)) (hk : k (ix1 b) = 1#32) (r : Fin 100000) :
    keptVal sums x p k (ix2 b r) = ((if r = 0 then q else 0 : ℝ) : EReal) := by
  have hz : (FloatOps.ofBits .f32 0x00000000#32 : Ideal .f32) = (0 : EReal) := Ideal.ofBits_zero_f32
  have h : keptVal sums x p k (ix2 b r)
      = Scalar.select (IntOp.cmpi .sge (ranks (ix2 b r)) (colsI k (ix2 b r))) (FloatOps.ofBits .f32 0x00000000#32)
        (Scalar.select (FloatOps.cmpf .ogt ((sums (ix2 b r) : EReal) - (x (ix2 b r) : EReal) : EReal) (cols p (ix2 b r)))
          (FloatOps.ofBits .f32 0x00000000#32) (x (ix2 b r))) := rfl
  rw [h, ranks_apply, colsI_apply, cols_apply, hk]
  have hr := r.isLt
  have hsge : IntOp.cmpi .sge (BitVec.ofNat 32 r.val) 1#32 = 1#1 ↔ 1 ≤ r.val := sle_ofNat_iff 1 r.val (by decide) (by omega)
  by_cases h0 : r = 0
  · subst h0
    have h1 : ¬ FloatOps.cmpf (F := Ideal) (φ := .f32) .ogt ((sums (ix2 b 0) : EReal) - (x (ix2 b 0) : EReal) : EReal) (p (ix1 b)) = 1#1 := by
      have hd : ((sums (ix2 b 0) : EReal) - (x (ix2 b 0) : EReal) : EReal) = 0 := by
        rw [hs, hq, ← EReal.coe_sub, sub_self, EReal.coe_zero]
      have hn : ¬ (p (ix1 b) : EReal) < 0 := not_lt.mpr hp
      rw [hd, Ideal.cmpf_def]
      simp [Ideal.cmp, hn]
    rw [select_clear (fun h => absurd (hsge.mp h) (by simp)), select_clear h1, hq, if_pos rfl]
  · have : 1 ≤ r.val := Nat.one_le_iff_ne_zero.mpr fun h => h0 (Fin.ext h)
    rw [select_set (hsge.mpr this), hz, if_neg h0, EReal.coe_zero]

/-- The sum of a row with one entry. -/
theorem sum_single {n : ℕ} (z : Fin n) (q : ℝ) : ∑ r : Fin n, (if r = z then q else 0) = q := by simp

theorem sum_eq {n : ℕ} (g : Fin n → ℝ) (z : Fin n) (q : ℝ) (hg : ∀ r, g r = if r = z then q else 0) : ∑ r, g r = q :=
  (Finset.sum_congr rfl fun r _ => hg r).trans (sum_single z q)

/-- That entry divided by the sum is 1, any other 0. -/
theorem single_div {n : ℕ} (z r : Fin n) (q : ℝ) (hq : 0 < q) : (if r = z then q else 0) / q = if r = z then 1 else 0 := by
  by_cases h : r = z
  · rw [if_pos h, if_pos h, div_self hq.ne']
  · rw [if_neg h, if_neg h, zero_div]

/-- A row with its only entry at one rank, divided by its sum. -/
theorem norm_kept_apply (z : Fin 100000) (x : Reals S32x100000) (q : Fin 32 → ℝ) (hq : ∀ b, 0 < q b)
    (hx : ∀ b r, x (ix2 b r) = ((if r = z then q b else 0 : ℝ) : EReal)) (b : Fin 32) (r : Fin 100000) :
    normVal x (ix2 b r) = ((if r = z then 1 else 0 : ℝ) : EReal) := by
  obtain ⟨g, hg⟩ : ∃ g : Fin 32 → Fin 100000 → ℝ, ∀ b r, g b r = if r = z then q b else 0 := ⟨fun b r => if r = z then q b else 0, fun _ _ => rfl⟩
  have hs : ∀ b, ∑ r, g b r = q b := fun b => sum_eq (g b) z (q b) (hg b)
  have h := normVal_apply x g (fun b r => by rw [hg]; exact hx b r) (fun b => by rw [hs]; exact (hq b).ne') b r
  rw [hs, hg, single_div z r _ (hq b)] at h
  exact h

/-- A sum with a logarithm, at one cell. -/
theorem add_log_apply (x y : Reals S32x100000) (j : S32x100000.Idx) : addf x (Host.log y) j = ((x j : EReal) + Ideal.log (y j) : EReal) := rfl

/-- The last steps: with a row's only one at `w`, the arg-max of the noisy logarithms is `w`. -/
theorem chain_end (a39 a47 u a49 : Reals S32x100000) (a50 : Words S32) (z : Fin 32 → Fin 100000 → EReal) (e47 : a47 = Host.log a39)
    (eu : ∀ b v, u (ix2 b v) = max ((FloatOps.ofBits .f32 0x00800000#32 : Ideal .f32) : EReal) (z b v))
    (e49 : a49 = addf (noiseVal u) a47) (e50 : a50 = argmaxVal a49) (w : Fin 32 → Fin 100000)
    (h39 : ∀ b v, a39 (ix2 b v) = ((if v = w b then 1 else 0 : ℝ) : EReal)) (b : Fin 32) : a50 (ix1 b) = BitVec.ofNat 32 (w b).val := by
  subst e47
  have h49 : ∀ b v, a49 (ix2 b v) = (noiseVal u (ix2 b v) + Ideal.log (a39 (ix2 b v)) : EReal) := fun b v =>
    (congrFun e49 _).trans (add_log_apply (noiseVal u) a39 (ix2 b v))
  have hn := noiseVal_ne u (ix2 b (w b)) (z b (w b)) (eu b (w b))
  generalize noiseVal u = y at h49 hn
  have h1 : Ideal.log (a39 (ix2 b (w b))) = (0 : EReal) := by
    rw [h39, if_pos rfl, Ideal.log_coe, if_neg (by norm_num), Real.log_one, EReal.coe_zero]
  have h0 : ∀ v, v ≠ w b → Ideal.log (a39 (ix2 b v)) = (⊥ : EReal) := fun v hv => by
    rw [h39, if_neg hv, Ideal.log_coe, if_pos le_rfl]
  refine (congrFun e50 _).trans (argmaxVal_only a49 b (w b) ?_ fun v hv => ?_)
  · rw [h49, h1]
    exact fun h => hn ((add_zero _).symm.trans h)
  · rw [h49, h0 v hv]
    exact EReal.add_bot _

/-- The steps before: the restored probabilities are one at the first place of the greatest logit, zero elsewhere. -/
theorem chain_start (a6 a17 a20 a21 a33 a37 a39 : Reals S32x100000) (a19 a38 : Words S32x100000) (t4 : Reals S32) (t5 : Words S32)
    (e17 : a17 = normVal (expVal a6)) (e19 : a19 = sortReals (Host.negf a17)) (e20 : a20 = alongVal a17 a19) (e21 : a21 = sumsVal a20)
    (e33 : a33 = keptVal a21 a20 t4 t5) (e37 : a37 = normVal a33) (e38 : a38 = sortWords a19) (e39 : a39 = alongVal a37 a38)
    (f : Fin 32 → Fin 100000 → ℝ) (h6 : ∀ b v, a6 (ix2 b v) = (f b v : EReal)) (h4 : ∀ b, (0 : EReal) ≤ t4 (ix1 b)) (h5 : ∀ b, t5 (ix1 b) = 1#32)
    (w : Fin 32 → Fin 100000) (hle : ∀ b v, f b v ≤ f b (w b)) (hlt : ∀ b v, v < w b → f b v < f b (w b)) (b : Fin 32) (v : Fin 100000) :
    a39 (ix2 b v) = ((if v = w b then 1 else 0 : ℝ) : EReal) := by
  obtain ⟨P, hpos, hord, hP⟩ := probs_apply a6 f h6
  have h17 : ∀ b v, a17 (ix2 b v) = (P b v : EReal) := fun b v => (congrFun e17 _).trans (hP b v)
  obtain ⟨o, ho⟩ : ∃ o : Fin 32 → Fin 100000 → Fin 100000, ∀ b, order (P b) = o b := ⟨fun b => order (P b), fun _ => rfl⟩
  have hinj : ∀ b, Function.Injective (o b) := fun b => by rw [← ho b]; exact order_injective (P b)
  have h0 : ∀ b, o b 0 = w b := fun b => (congrFun (ho b) 0).symm.trans
    (order_zero (P b) (w b) (fun u h => absurd ((hord b _ _).mp h) (not_lt.mpr (hle b u))) fun u hu => (hord b _ _).mpr (hlt b u hu))
  have h19 : ∀ b r, a19 (ix2 b r) = BitVec.ofNat 32 (o b r).val := fun b r => by rw [e19, order_apply a17 P h17 b r, ho b]
  clear ho
  have h20 : ∀ b r, a20 (ix2 b r) = (P b (o b r) : EReal) := fun b r =>
    (congrFun e20 _).trans ((alongVal_apply a17 a19 o h19 b r).trans (h17 b _))
  have h21 : ∀ b, a21 (ix2 b 0) = a20 (ix2 b 0) := fun b => (congrFun e21 _).trans (sums_first a20 b)
  obtain ⟨q, hq⟩ : ∃ q : Fin 32 → ℝ, ∀ b, P b (o b 0) = q b := ⟨fun b => P b (o b 0), fun _ => rfl⟩
  have hqpos : ∀ b, 0 < q b := fun b => by rw [← hq b]; exact hpos b _
  have h33 : ∀ b r, a33 (ix2 b r) = ((if r = 0 then q b else 0 : ℝ) : EReal) := fun b r =>
    (congrFun e33 _).trans (keptVal_apply a21 a20 t4 t5 b (q b) (by rw [h20, hq]) (h21 b) (h4 b) (h5 b) r)
  have h37 : ∀ b r, a37 (ix2 b r) = ((if r = 0 then 1 else 0 : ℝ) : EReal) := fun b r =>
    (congrFun e37 _).trans (norm_kept_apply 0 a33 q hqpos h33 b r)
  obtain ⟨k, hk⟩ : ∃ k : Fin 32 → Fin 100000 → Fin 100000, ∀ b, sortedFrom (fun i i' : Fin 100000 => decide (o b i < o b i')) = k b :=
    ⟨fun b => sortedFrom (fun i i' : Fin 100000 => decide (o b i < o b i')), fun _ => rfl⟩
  have h38 : ∀ b v, a38 (ix2 b v) = BitVec.ofNat 32 (k b v).val := fun b v => by rw [e38, sortWords_apply a19 o h19 b v, hk b]
  have hok : ∀ b v, o b (k b v) = v := fun b v => by
    rw [← hk b]
    exact rank_sortedFrom (fun i i' => decide (o b i < o b i')) (o b) (hinj b) (fun _ _ => rfl) v
  clear hk
  have hr : k b v = 0 ↔ v = w b := by
    rw [← h0 b]
    exact ⟨fun h => by rw [← hok b v, h], fun h => hinj b (by rw [hok, h])⟩
  refine (congrFun e39 _).trans ((alongVal_apply a37 a38 k h38 b v).trans ((h37 b _).trans ?_))
  by_cases h : v = w b
  · rw [if_pos h, if_pos (hr.mpr h)]
  · rw [if_neg h, if_neg fun h' => h (hr.mp h')]

end Cert.ReferenceIdeal.Proof
-- ==== Proof.R.Run.lean ====
/-
  The reference's run: every buffer ends at its operations' value, and the result is the first place of the greatest logit.
-/
module

public import proofs.«01_k».proof.Proof.R.Value
public import Idealize.ShloMosaic.Lib.StableHlo.RunHlo
public import Idealize.ShloMosaic.Lib.Tactic

@[expose] public section

namespace Cert.ReferenceIdeal.Proof

open Cert.ReferenceIdeal Cert.ReferenceIdeal.Gen Cert.Proof
open Idealize.ShloMosaic Idealize.ShloMosaic.ValueIdx Idealize.ShloMosaic.StableHlo Idealize.ShloMosaic.TcCoe Idealize.SL.Sem
open Cert.KernelIdeal.Proof (logit)

set_option maxHeartbeats 4000000 in
/-- Every buffer ends at the value its operations give it. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ (d : Dev nD) (b : Ref sig .tc),
      r.2.mem ((d.tc : Thread nD τ).loc b) = fin (launchContents m d) b) :=
  run_hlo _ _ refOps.2 (by decide) (by decide) (by unfold refOps; simp)
    (by unfold refOps; intro _ h; (repeat (cases h with | head => rfl | tail _ h => ?_)); exact nomatch h) m ρ

end Cert.ReferenceIdeal.Proof
-- ==== Proof.R.Word.lean ====
/-
  The reference's result word, from its arguments' entries.
-/
module

public import proofs.«01_k».proof.Proof.R.Value

@[expose] public section

namespace Cert.ReferenceIdeal.Proof

open Cert.ReferenceIdeal Cert.ReferenceIdeal.Gen Cert.Proof
open Idealize.ShloMosaic Idealize.ShloMosaic.ValueIdx Idealize.ShloMosaic.StableHlo Idealize.ShloMosaic.TcCoe Idealize.SL.Sem
open Cert.KernelIdeal.Proof (logit)

/-- The greater of the smallest positive normal number and an array, at one cell. -/
theorem max_tiny_apply (y : Reals S32x100000) (j : S32x100000.Idx) :
    maximumf (broadcastInDim S32x100000 ![0, 1] bcast_S1x1_S32x100000_0_1 (broadcastInDim S1x1 ![] bcast_S_S1x1 (constant S_ .f32 0x00800000#32))) y j
      = max ((FloatOps.ofBits .f32 0x00800000#32 : Ideal .f32) : EReal) (y j) := rfl

/-- The result at a sequence is the first place of its greatest logit: the program's stages, each from those before. -/
theorem word_of (x0 : Reals S100000x1024) (x1 : Reals S32x8x1024) (x2 : Words S1) (x3 x4 : Reals S32) (x5 : Words S32) (a0 : Reals S32x1x1024)
    (a6 a17 a20 a21 a33 a37 a39 a47 u z a49 : Reals S32x100000) (a19 a38 : Words S32x100000) (a50 : Words S32)
    (e0 : a0 = takeVal x1 x2) (e6 : a6 = scaledVal a0 x0 x3) (e17 : a17 = normVal (expVal a6)) (e19 : a19 = sortReals (Host.negf a17))
    (e20 : a20 = alongVal a17 a19) (e21 : a21 = sumsVal a20) (e33 : a33 = keptVal a21 a20 x4 x5) (e37 : a37 = normVal a33)
    (e38 : a38 = sortWords a19) (e39 : a39 = alongVal a37 a38) (e47 : a47 = Host.log a39)
    (eu : u = maximumf (broadcastInDim S32x100000 ![0, 1] bcast_S1x1_S32x100000_0_1 (broadcastInDim S1x1 ![] bcast_S_S1x1 (constant S_ .f32 0x00800000#32))) z)
    (e49 : a49 = addf (noiseVal u) a47) (e50 : a50 = argmaxVal a49)
    (p : Fin 8) (H : Fin 32 → Fin 1024 → ℝ) (E : Fin 100000 → Fin 1024 → ℝ) (T : Fin 32 → ℝ)
    (g0 : ∀ v k, x0 (ix2 v k) = (E v k : EReal)) (g1 : ∀ b k, x1 (ix3 b p k) = (H b k : EReal)) (g2 : ∀ j, x2 j = BitVec.ofNat 32 p.val)
    (g3 : ∀ b, x3 (ix1 b) = (T b : EReal)) (hT : ∀ b, 0 < T b) (g4 : ∀ b, (0 : EReal) ≤ x4 (ix1 b)) (g5 : ∀ b, x5 (ix1 b) = 1#32)
    (w : Fin 32 → Fin 100000) (hw : ∀ b, First (logit H E b) 100000 (w b).val) (b : Fin 32) :
    a50 (ix1 b) = BitVec.ofNat 32 (w b).val := by
  have h0 : ∀ b k, a0 (ix3 b 0 k) = (H b k : EReal) := fun b k => (congrFun e0 _).trans ((takeVal_apply x1 x2 p g2 b k).trans (g1 b k))
  obtain ⟨f, hf⟩ : ∃ f : Fin 32 → Fin 100000 → ℝ, ∀ b v, f b v = logit H E b v.val / T b := ⟨fun b v => logit H E b v.val / T b, fun _ _ => rfl⟩
  have h6 : ∀ b v, a6 (ix2 b v) = (f b v : EReal) := fun b v => by
    rw [e6, hf]
    exact scaledVal_apply a0 x0 x3 H E T h0 g0 g3 (fun b => (hT b).ne') b v
  have hle : ∀ b v, f b v ≤ f b (w b) := fun b v => by
    rw [hf, hf]
    exact (div_le_div_iff_of_pos_right (hT b)).mpr ((hw b).2.1 v.val v.isLt)
  have hlt : ∀ b v, v < w b → f b v < f b (w b) := fun b v hv => by
    rw [hf, hf]
    exact (div_lt_div_iff_of_pos_right (hT b)).mpr ((hw b).2.2 v.val hv)
  have h39 := chain_start a6 a17 a20 a21 a33 a37 a39 a19 a38 x4 x5 e17 e19 e20 e21 e33 e37 e38 e39 f h6 g4 g5 w hle hlt
  exact chain_end a39 a47 u a49 a50 (fun b v => z (ix2 b v)) e47
    (fun b v => (congrFun eu _).trans (max_tiny_apply z (ix2 b v))) e49 e50 w h39 b

/-- The same of the buffers after the whole program. -/
theorem result_word (V : Valuation τ sig (Elt Ideal)) (p : Fin 8) (H : Fin 32 → Fin 1024 → ℝ) (E : Fin 100000 → Fin 1024 → ℝ) (T : Fin 32 → ℝ)
    (x0 : Reals S100000x1024) (x1 : Reals S32x8x1024) (x2 : Words S1) (x3 x4 : Reals S32) (x5 : Words S32)
    (f0 : fin V main_arg0 = x0) (f1 : fin V main_arg1 = x1) (f2 : fin V main_arg2 = x2) (f3 : fin V main_arg3 = x3) (f4 : fin V main_arg4 = x4)
    (f5 : fin V main_arg5 = x5)
    (g0 : ∀ v k, x0 (ix2 v k) = (E v k : EReal)) (g1 : ∀ b k, x1 (ix3 b p k) = (H b k : EReal)) (g2 : ∀ j, x2 j = BitVec.ofNat 32 p.val)
    (g3 : ∀ b, x3 (ix1 b) = (T b : EReal)) (hT : ∀ b, 0 < T b) (g4 : ∀ b, (0 : EReal) ≤ x4 (ix1 b)) (g5 : ∀ b, x5 (ix1 b) = 1#32)
    (w : Fin 32 → Fin 100000) (hw : ∀ b, First (logit H E b) 100000 (w b).val) (a50 : Words S32) (f50 : fin V main_v50 = a50) (b : Fin 32) :
    a50 (ix1 b) = BitVec.ofNat 32 (w b).val := by
  have e0 := read_take V
  have e6 := read_scaled V
  have e17 := read_probs V
  have e19 := read_order V
  have e20 := read_sorted V
  have e21 := read_sums V
  have e33 := read_kept V
  have e37 := read_norm V
  have e38 := read_inverse V
  have e39 := read_restored V
  have e47 := read_logs V
  have eu := read_unit V
  have e49 := read_noisy V
  have e50 := read_result V
  rw [f1, f2] at e0
  rw [f0, f3] at e6
  rw [f4, f5] at e33
  rw [f50] at e50
  generalize fin V main_v0 = a0 at e0 e6
  generalize fin V main_v6 = a6 at e6 e17
  generalize fin V main_v17 = a17 at e17 e19 e20
  generalize fin V main_v19 = a19 at e19 e20 e38
  generalize fin V main_v20 = a20 at e20 e21 e33
  generalize fin V main_v21 = a21 at e21 e33
  generalize fin V main_v33 = a33 at e33 e37
  generalize fin V main_v37 = a37 at e37 e39
  generalize fin V main_v38 = a38 at e38 e39
  generalize fin V main_v39 = a39 at e39 e47
  generalize fin V main_v47 = a47 at e47 e49
  generalize fin V main_call8_call0_v31 = z at eu
  generalize fin V main_call8_v0 = u at eu e49
  generalize fin V main_v49 = a49 at e49 e50
  exact word_of x0 x1 x2 x3 x4 x5 a0 a6 a17 a20 a21 a33 a37 a39 a47 u z a49 a19 a38 a50 e0 e6 e17 e19 e20 e21 e33 e37 e38 e39 e47 eu e49 e50
    p H E T g0 g1 g2 g3 hT g4 g5 w hw b

end Cert.ReferenceIdeal.Proof
-- ==== Proof.Equal.lean ====
/-
  The idealized kernel and the reference return the same words.
-/
module

public import proofs.«01_k».proof.Proof.V.Inputs
public import proofs.«01_k».proof.Proof.R.Frame
public import proofs.«01_k».proof.Proof.R.Run
public import proofs.«01_k».proof.Proof.R.Word

@[expose] public section

namespace Cert.Proof

open Idealize.ShloMosaic Idealize.ShloMosaic.TcCoe Idealize.ShloMosaic.ValueIdx Idealize.ShloMosaic.StableHlo Idealize.SL.Sem
open Cert.KernelIdeal.Proof (logit Reads kernel_run)
open Cert.ReferenceIdeal.Proof (Reals Words)

/-- The precondition bounds the position. -/
theorem pos_inputs (m : (ℓ : Loc KernelIdeal.nD KernelIdeal.τ KernelIdeal.sig) → Buf (Elt Ideal) ℓ) (h : Pre_KernelIdeal_inputs_ok m) (x) :
    ((m (((0 : Dev KernelIdeal.nD).tc : Thread KernelIdeal.nD KernelIdeal.τ).loc KernelIdeal.main_arg2) : KernelIdeal.S1.Idx → BitVec 32) x).toNat < 8 :=
  (fn_reads _ _ _ _ _ _ (h 0)).2.2.1 x

/-- Both programs return, at every sequence, the first place of the greatest logit. -/
theorem algebraic : Cert.algebraic_KernelIdeal_ReferenceIdeal_pre_inputs_ok := by
  intro m g m' g' hpre hag
  obtain ⟨q0, q1, q2, q3, q4, q5⟩ := fn_reads _ _ _ _ _ _ (hpre 0)
  obtain ⟨e0, e1, e2, e3, e4, e5⟩ := hag 0
  choose E hE using fun (v : Fin 100000) (k : Fin 1024) => q0 (ix2 v k)
  choose H' hH' using fun (b : Fin 32) (p : Fin 8) (k : Fin 1024) => q1 (ix3 b p k)
  choose T hTpos hT using fun b : Fin 32 => q3 (ix1 b)
  obtain ⟨p, hp⟩ : ∃ p : Fin 8, ∀ x, ((m (((0 : Dev KernelIdeal.nD).tc : Thread KernelIdeal.nD KernelIdeal.τ).loc KernelIdeal.main_arg2) :
      KernelIdeal.S1.Idx → BitVec 32) x).toNat = p.val := by
    have hs : Subsingleton KernelIdeal.S1.Idx := ⟨fun x y => funext fun k => match k with | ⟨0, _⟩ => Subsingleton.elim (α := Fin 1) _ _⟩
    exact ⟨⟨_, q2 (ix1 0)⟩, fun x => by rw [Subsingleton.elim x (ix1 0)]⟩
  obtain ⟨H, hH⟩ : ∃ H : Fin 32 → Fin 1024 → ℝ, ∀ b k, H b k = H' b p k := ⟨fun b k => H' b p k, fun _ _ => rfl⟩
  have hreads : Reads m p H E := ⟨hp, fun b k => by rw [hH]; exact hH' b p k, hE⟩
  have hO : KernelIdeal.Gen.Ok m := ok_ideal m (pos_inputs m hpre)
  choose w hw using fun b : Fin 32 => First.exists (logit H E b) 100000 (by decide)
  obtain ⟨W, hW⟩ : ∃ W : Fin 32 → Fin 100000, ∀ b, (W b).val = w b := ⟨fun b => ⟨w b, (hw b).1⟩, fun _ => rfl⟩
  have hFirst : ∀ b, First (logit H E b) 100000 (W b).val := fun b => by rw [hW]; exact hw b
  obtain ⟨word, hword⟩ : ∃ word : KernelIdeal.S32.Idx → BitVec 32, ∀ b : Fin 32, word (ix1 b) = BitVec.ofNat 32 (W b).val :=
    ⟨fun j => BitVec.ofNat 32 (W (j 0)).val, fun _ => rfl⟩
  have hk := kernel_run hO g hreads word fun b v hv => by rw [hword, First.unique hv (hFirst b)]
  have hf := frame_reference m' g' trivial
  refine ⟨fun _ => word, ?_, ?_⟩
  · refine θ_run_mono (θ_run_and hk (KernelIdeal.Gen.unchanged m g hO)) fun r hr c => ⟨hr.1 c, hr.2 c⟩
  · refine θ_run_mono (θ_run_and (ReferenceIdeal.Proof.run_all m' g') hf) fun r hr c => ⟨?_, hr.2.1 c⟩
    obtain rfl : c = 0 := Subsingleton.elim _ _
    obtain ⟨k0, k1, k2, k3, k4, k5⟩ := hr.2.1 0
    have hall := hr.1 0
    have f0 := (hall ReferenceIdeal.main_arg0).symm.trans (k0.trans e0)
    have f1 := (hall ReferenceIdeal.main_arg1).symm.trans (k1.trans e1)
    have f2 := (hall ReferenceIdeal.main_arg2).symm.trans (k2.trans e2)
    have f3 := (hall ReferenceIdeal.main_arg3).symm.trans (k3.trans e3)
    have f4 := (hall ReferenceIdeal.main_arg4).symm.trans (k4.trans e4)
    have f5 := (hall ReferenceIdeal.main_arg5).symm.trans (k5.trans e5)
    have hr50 := ReferenceIdeal.Proof.result_word (launchContents m' 0) p H E T _ _ _ _ _ _ f0 f1 f2 f3 f4 f5 hE
      (fun b k => by rw [hH]; exact hH' b p k)
      (fun j => BitVec.eq_of_toNat_eq (by rw [BitVec.toNat_ofNat, Nat.mod_eq_of_lt (by have := p.isLt; omega)]; exact hp j))
      hT hTpos (fun b => q4 (ix1 b)) (fun b => q5 (ix1 b)) W hFirst _ rfl
    refine (hall ReferenceIdeal.main_v50).trans (funext fun j => ?_)
    obtain ⟨b, rfl⟩ : ∃ b : Fin 32, j = ix1 b := ⟨j 0, by funext a; match a with | ⟨0, _⟩ => rfl⟩
    exact (hr50 b).trans (hword b).symm

end Cert.Proof
-- ==== Proof.lean ====
/-
  The proof of the certificate's claim: each conjunct from the module that proves it.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_pos_ok
public import proofs.«01_k».proof.Proof.K.Position
public import proofs.«01_k».proof.Proof.R.Frame
public import proofs.«01_k».proof.Proof.Equal

@[expose] public section

noncomputable section

namespace Cert.Proof

open Idealize.ShloMosaic Idealize.SL.Sem

/-- The claim: the kernel's frame as printed and over the reals, the reference's frame, that the idealization preserves the
    kernel, and that over the reals the kernel and the reference return the same words. -/
theorem claim : Cert.Claim :=
  ⟨Cert.Kernel.Gen.facts, Cert.KernelIdeal.Gen.facts, Cert.ReferenceIdeal.Gen.facts, Cert.Pre_pos_ok.Gen.facts, Cert.Pre_inputs_ok.Proof.facts,
    fun m ρ h => Cert.Kernel.Gen.frame m ρ (ok_kernel m fun x => pos_kernel m h 0 x),
    fun m ρ h => Cert.KernelIdeal.Gen.frame m ρ (ok_ideal m fun x => pos_ideal m h 0 x),
    fun m ρ h => Cert.KernelIdeal.Gen.frame m ρ (ok_ideal m (pos_inputs m h)),
    frame_reference, fun m ρ _ => frame_reference m ρ trivial, trivial, algebraic⟩

end Cert.Proof

end
